-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_is_finite [hPre_x_is_finite : Cert.Pre_x_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_is_finite [hPre_x_is_finite : Cert.Pre_x_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_is_finite [hKernelIdeal : Cert.KernelIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_is_finite [hReferenceIdeal : Cert.ReferenceIdeal.Facts] [hPre_x_is_finite : Cert.Pre_x_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "fifth" .f32 0x3E4CCCCD#32 ((1 / 5 : ℝ) : EReal)
  ∧ IdealRules.named_const.Statement Cert.KernelIdeal.κ "minus_fifth" .f32 0xBE4CCCCD#32 ((-1 / 5 : ℝ) : EReal)
  ∧ IdealRules.named_const.Statement Cert.KernelIdeal.κ "four_fifths" .f32 0x3F4CCCCD#32 ((4 / 5 : ℝ) : EReal)

def algebraic_KernelIdeal_ReferenceIdeal_pre_x_is_finite [hKernelIdeal : Cert.KernelIdeal.Facts] [hReferenceIdeal : Cert.ReferenceIdeal.Facts] [hPre_x_is_finite : Cert.Pre_x_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_is_finite : Cert.Pre_x_is_finite.Facts),
    quiescent_Kernel (hKernel := hKernel)
    ∧ quiescent_KernelIdeal (hKernelIdeal := hKernelIdeal)
    ∧ quiescent_KernelIdeal_pre_x_is_finite (hKernelIdeal := hKernelIdeal) (hPre_x_is_finite := hPre_x_is_finite)
    ∧ quiescent_ReferenceIdeal (hReferenceIdeal := hReferenceIdeal)
    ∧ quiescent_ReferenceIdeal_pre_x_is_finite (hReferenceIdeal := hReferenceIdeal) (hPre_x_is_finite := hPre_x_is_finite)
    ∧ preserves_Kernel_KernelIdeal
    ∧ algebraic_KernelIdeal_ReferenceIdeal_pre_x_is_finite (hKernelIdeal := hKernelIdeal) (hReferenceIdeal := hReferenceIdeal) (hPre_x_is_finite := hPre_x_is_finite)
-- ==== Pre_x_is_finite.lean ====
abbrev S16384x17x128 : Shape := ⟨3, ![16384, 17, 128]⟩
abbrev S3x1x128x128 : Shape := ⟨4, ![3, 1, 128, 128]⟩
abbrev S1x1x128 : Shape := ⟨3, ![1, 1, 128]⟩
abbrev S_ : Shape := ⟨0, ![]⟩

class Facts : Prop where
  bcast_S_S16384x17x128 : S_.BroadcastsInDim S16384x17x128 (![] : Fin 0 → Fin S16384x17x128.rank)

variable [Facts]

def fn {F : FTy → Type} [FloatOps F] (main_arg0 : FVec F S16384x17x128 .f32) (main_arg1 : FVec F S3x1x128x128 .f32) (main_arg2 : FVec F S1x1x128 .f32) : IVec S16384x17x128 1 :=
  let main_v0 : FVec F S16384x17x128 .f32 := Host.absf main_arg0
  let main_cst : FVec F S_ .f32 := constant S_ .f32 0x7F800000#32
  let main_v1 : FVec F S16384x17x128 .f32 := broadcastInDim S16384x17x128 ![] bcast_S_S16384x17x128 main_cst
  let main_v2 : IVec S16384x17x128 1 := cmpf .olt main_v0 main_v1
  main_v2
-- ==== Kernel.lean ====
abbrev S16384x17x128 : Shape := ⟨3, ![16384, 17, 128]⟩
abbrev S3x1x128x128 : Shape := ⟨4, ![3, 1, 128, 128]⟩
abbrev S1x1x128 : Shape := ⟨3, ![1, 1, 128]⟩
abbrev S384x128 : Shape := ⟨2, ![384, 128]⟩
abbrev S1x128 : Shape := ⟨2, ![1, 128]⟩
abbrev S6x256x17x128 : Shape := ⟨4, ![6, 256, 17, 128]⟩
abbrev S6 : Shape := ⟨1, ![6]⟩
abbrev S1 : Shape := ⟨1, ![1]⟩
abbrev S_ : Shape := ⟨0, ![]⟩
abbrev S1x128x17x128 : Shape := ⟨4, ![1, 128, 17, 128]⟩
abbrev S128x17x128 : Shape := ⟨3, ![128, 17, 128]⟩
abbrev S1x256x17x128 : Shape := ⟨4, ![1, 256, 17, 128]⟩
abbrev S256x17x128 : Shape := ⟨3, ![256, 17, 128]⟩
abbrev S17x256x128 : Shape := ⟨3, ![17, 256, 128]⟩
abbrev S1x256x128 : Shape := ⟨3, ![1, 256, 128]⟩
abbrev S256x128 : Shape := ⟨2, ![256, 128]⟩
abbrev S256x384 : Shape := ⟨2, ![256, 384]⟩

abbrev nBuf : Space → Nat
  | .hbm => 6
  | .vmem => 4
  | .smem => 0
  | _ => 0

abbrev bufTy : (tb : Table) → Fin (tcTables nBuf tb) → BufTy
  | .hbm, ⟨0, _⟩ => ⟨S16384x17x128, .f32⟩
  | .hbm, ⟨1, _⟩ => ⟨S3x1x128x128, .f32⟩
  | .hbm, ⟨2, _⟩ => ⟨S1x1x128, .f32⟩
  | .hbm, ⟨3, _⟩ => ⟨S384x128, .f32⟩
  | .hbm, ⟨4, _⟩ => ⟨S1x128, .f32⟩
  | .hbm, ⟨5, _⟩ => ⟨S16384x17x128, .f32⟩
  | .local _ .vmem, ⟨0, _⟩ => ⟨S384x128, .f32⟩
  | .local _ .vmem, ⟨1, _⟩ => ⟨S1x128, .f32⟩
  | .local _ .vmem, ⟨2, _⟩ => ⟨S6x256x17x128, .f32⟩
  | .local _ .vmem, ⟨3, _⟩ => ⟨S6x256x17x128, .f32⟩
  | _, _ => ⟨S16384x17x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c6_i32_1 : BitVec 32 := 6#32
  let v4 : BitVec 32 := Scalar.addi arg0 c6_i32_1
  let c1_i32 : BitVec 32 := 1#32
  let v5 : BitVec 32 := Scalar.subi v4 c1_i32
  let c64_i32 : BitVec 32 := 64#32
  let v6 : BitVec 1 := Scalar.cmpi .slt v5 c64_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c6_i32_81 : BitVec 32 := 6#32
  let v231 : BitVec 32 := Scalar.addi arg0 c6_i32_81
  let c1_i32_82 : BitVec 32 := 1#32
  let v232 : BitVec 32 := Scalar.subi v231 c1_i32_82
  let c6_i32_83 : BitVec 32 := 6#32
  let v233 : BitVec 32 := Scalar.remsi v232 c6_i32_83
  ![v233.toNat]
def k0_off2 (i : grid0.Coords) : Fin 4 → Nat :=
  let arg0 : BitVec 32 := BitVec.ofNat 32 (i 0).val
  let c6_i32_81 : BitVec 32 := 6#32
  let v231 : BitVec 32 := Scalar.addi arg0 c6_i32_81
  let c1_i32_82 : BitVec 32 := 1#32
  let v232 : BitVec 32 := Scalar.subi v231 c1_i32_82
  let c6_i32_83 : BitVec 32 := 6#32
  let v233 : BitVec 32 := Scalar.remsi v232 c6_i32_83
  let c0_i32_88 : BitVec 32 := 0#32
  let c0_i32_89 : BitVec 32 := 0#32
  let c0_i32_90 : BitVec 32 := 0#32
  ![v233.toNat, 0, 0, 0]
def k0_off3 (i : grid0.Coords) (c0_i32_85 : BitVec 32) : Fin 3 → Nat :=
  let arg0 : BitVec 32 := BitVec.ofNat 32 (i 0).val
  let c6_i32_79 : BitVec 32 := 6#32
  let v229 : BitVec 32 := Scalar.addi arg0 c6_i32_79
  let c1_i32_80 : BitVec 32 := 1#32
  let v230 : BitVec 32 := Scalar.subi v229 c1_i32_80
  let c256_i32_84 : BitVec 32 := 256#32
  let v234 : BitVec 32 := Scalar.muli v230 c256_i32_84
  let v235 : BitVec 32 := Scalar.addi v234 c0_i32_85
  let c0_i32_91 : BitVec 32 := 0#32
  let c0_i32_92 : BitVec 32 := 0#32
  ![v235.toNat, 0, 0]
def k0_off4 (i : grid0.Coords) : Fin 4 → Nat :=
  let arg0 : BitVec 32 := BitVec.ofNat 32 (i 0).val
  let c6_i32_81 : BitVec 32 := 6#32
  let v231 : BitVec 32 := Scalar.addi arg0 c6_i32_81
  let c1_i32_82 : BitVec 32 := 1#32
  let v232 : BitVec 32 := Scalar.subi v231 c1_i32_82
  let c6_i32_83 : BitVec 32 := 6#32
  let v233 : BitVec 32 := Scalar.remsi v232 c6_i32_83
  let c128_i32_93 : BitVec 32 := 128#32
  let c0_i32_94 : BitVec 32 := 0#32
  let c0_i32_95 : BitVec 32 := 0#32
  ![v233.toNat, 128, 0, 0]
def k0_off5 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off6 (i : grid0.Coords) : Fin 4 → Nat :=
  let arg0 : BitVec 32 := BitVec.ofNat 32 (i 0).val
  let c6_i32 : BitVec 32 := 6#32
  let v0 : BitVec 32 := Scalar.remsi arg0 c6_i32
  let c0_i32_3 : BitVec 32 := 0#32
  let c0_i32_4 : BitVec 32 := 0#32
  let c0_i32_5 : BitVec 32 := 0#32
  ![v0.toNat, 0, 0, 0]
def k0_off7 (i : grid0.Coords) : Fin 4 → Nat :=
  let arg0 : BitVec 32 := BitVec.ofNat 32 (i 0).val
  let c6_i32 : BitVec 32 := 6#32
  let v0 : BitVec 32 := Scalar.remsi arg0 c6_i32
  let c128_i32 : BitVec 32 := 128#32
  let c0_i32_9 : BitVec 32 := 0#32
  let c0_i32_10 : BitVec 32 := 0#32
  ![v0.toNat, 128, 0, 0]
def k0_off8 (i : grid0.Coords) : Fin 4 → Nat :=
  let arg0 : BitVec 32 := BitVec.ofNat 32 (i 0).val
  let c6_i32 : BitVec 32 := 6#32
  let v0 : BitVec 32 := Scalar.remsi arg0 c6_i32
  let v19 : Index := Scalar.indexCast v0
  let c0 : Index := 0#32
  let c0_14 : Index := 0#32
  let c0_15 : Index := 0#32
  ![v19.toNat, 0, 0, 0]
def k0_cond3 (i : grid0.Coords) : BitVec 1 :=
  let arg0 : BitVec 32 := BitVec.ofNat 32 (i 0).val
  let c6_i32_60 : BitVec 32 := 6#32
  let v204 : BitVec 1 := Scalar.cmpi .sge arg0 c6_i32_60
  let v205 : BitVec 32 := Scalar.extui v204
  let c0_i32_61 : BitVec 32 := 0#32
  let v206 : BitVec 1 := Scalar.cmpi .ne v205 c0_i32_61
  v206

def k0_off9 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off10 (i : grid0.Coords) : Fin 4 → Nat :=
  let arg0 : BitVec 32 := BitVec.ofNat 32 (i 0).val
  let c6_i32 : BitVec 32 := 6#32
  let v0 : BitVec 32 := Scalar.remsi arg0 c6_i32
  let c0_i32_82 : BitVec 32 := 0#32
  let c0_i32_83 : BitVec 32 := 0#32
  let c0_i32_84 : BitVec 32 := 0#32
  ![v0.toNat, 0, 0, 0]
def k0_off11 (i : grid0.Coords) : Fin 4 → Nat :=
  let arg0 : BitVec 32 := BitVec.ofNat 32 (i 0).val
  let c6_i32 : BitVec 32 := 6#32
  let v0 : BitVec 32 := Scalar.remsi arg0 c6_i32
  let c128_i32_88 : BitVec 32 := 128#32
  let c0_i32_89 : BitVec 32 := 0#32
  let c0_i32_90 : BitVec 32 := 0#32
  ![v0.toNat, 128, 0, 0]
def k0_off12 (i : grid0.Coords) (c0_i32_65 : BitVec 32) : Fin 3 → Nat :=
  let arg0 : BitVec 32 := BitVec.ofNat 32 (i 0).val
  let c256_i32 : BitVec 32 := 256#32
  let v212 : BitVec 32 := Scalar.muli arg0 c256_i32
  let v213 : BitVec 32 := Scalar.addi v212 c0_i32_65
  let c0_i32_68 : BitVec 32 := 0#32
  let c0_i32_69 : BitVec 32 := 0#32
  ![v213.toNat, 0, 0]
def k0_cond4 (i : grid0.Coords) : BitVec 1 :=
  let arg0 : BitVec 32 := BitVec.ofNat 32 (i 0).val
  let c63_i32 : BitVec 32 := 63#32
  let v226 : BitVec 1 := Scalar.cmpi .eq arg0 c63_i32
  let v227 : BitVec 32 := Scalar.extui v226
  let c0_i32_78 : BitVec 32 := 0#32
  let v228 : BitVec 1 := Scalar.cmpi .ne v227 c0_i32_78
  v228

def k0_off13 (i : grid0.Coords) (c1_i32_79 : BitVec 32) : Fin 1 → Nat :=
  let arg0 : BitVec 32 := BitVec.ofNat 32 (i 0).val
  let v229 : BitVec 32 := Scalar.addi arg0 c1_i32_79
  let c6_i32_80 : BitVec 32 := 6#32
  let v230 : BitVec 32 := Scalar.remsi v229 c6_i32_80
  ![v230.toNat]
def k0_off14 (i : grid0.Coords) (c1_i32_79 : BitVec 32) : Fin 4 → Nat :=
  let arg0 : BitVec 32 := BitVec.ofNat 32 (i 0).val
  let v229 : BitVec 32 := Scalar.addi arg0 c1_i32_79
  let c6_i32_80 : BitVec 32 := 6#32
  let v230 : BitVec 32 := Scalar.remsi v229 c6_i32_80
  let c0_i32_84 : BitVec 32 := 0#32
  let c0_i32_85 : BitVec 32 := 0#32
  let c0_i32_86 : BitVec 32 := 0#32
  ![v230.toNat, 0, 0, 0]
def k0_off15 (i : grid0.Coords) (c1_i32_79 : BitVec 32) : Fin 4 → Nat :=
  let arg0 : BitVec 32 := BitVec.ofNat 32 (i 0).val
  let v229 : BitVec 32 := Scalar.addi arg0 c1_i32_79
  let c6_i32_80 : BitVec 32 := 6#32
  let v230 : BitVec 32 := Scalar.remsi v229 c6_i32_80
  let c128_i32_90 : BitVec 32 := 128#32
  let c0_i32_91 : BitVec 32 := 0#32
  let c0_i32_92 : BitVec 32 := 0#32
  ![v230.toNat, 128, 0, 0]
def k0_off16 (i : grid0.Coords) : Fin 1 → Nat :=
  let arg0 : BitVec 32 := BitVec.ofNat 32 (i 0).val
  let c6_i32 : BitVec 32 := 6#32
  let v0 : BitVec 32 := Scalar.remsi arg0 c6_i32
  ![v0.toNat]
def k0_off17 (i : grid0.Coords) : Fin 4 → Nat :=
  let arg0 : BitVec 32 := BitVec.ofNat 32 (i 0).val
  let c6_i32 : BitVec 32 := 6#32
  let v0 : BitVec 32 := Scalar.remsi arg0 c6_i32
  let c0_i32_148 : BitVec 32 := 0#32
  let c0_i32_149 : BitVec 32 := 0#32
  let c0_i32_150 : BitVec 32 := 0#32
  ![v0.toNat, 0, 0, 0]
def k0_off18 (i : grid0.Coords) : Fin 4 → Nat :=
  let arg0 : BitVec 32 := BitVec.ofNat 32 (i 0).val
  let c6_i32 : BitVec 32 := 6#32
  let v0 : BitVec 32 := Scalar.remsi arg0 c6_i32
  let c128_i32_154 : BitVec 32 := 128#32
  let c0_i32_155 : BitVec 32 := 0#32
  let c0_i32_156 : BitVec 32 := 0#32
  ![v0.toNat, 128, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "fifth" => some ((1 / 5 : ℝ) : EReal)
  | "four_fifths" => some ((4 / 5 : ℝ) : EReal)
  | "minus_fifth" => some ((-1 / 5 : ℝ) : EReal)
  | "third" => some ((1 / 3 : ℝ) : EReal)
  | _ => none
-- ==== ReferenceIdeal.lean ====
abbrev S16384x17x128 : Shape := ⟨3, ![16384, 17, 128]⟩
abbrev S3x1x128x128 : Shape := ⟨4, ![3, 1, 128, 128]⟩
abbrev S1x1x128 : Shape := ⟨3, ![1, 1, 128]⟩
abbrev S3 : Shape := ⟨1, ![3]⟩
abbrev S5 : Shape := ⟨1, ![5]⟩
abbrev S5x5 : Shape := ⟨2, ![5, 5]⟩
abbrev S17 : Shape := ⟨1, ![17]⟩
abbrev S_ : Shape := ⟨0, ![]⟩
abbrev S3x1 : Shape := ⟨2, ![3, 1]⟩
abbrev S16384x3x128 : Shape := ⟨3, ![16384, 3, 128]⟩
abbrev S16384x128 : Shape := ⟨2, ![16384, 128]⟩
abbrev S5x1 : Shape := ⟨2, ![5, 1]⟩
abbrev S16384x5x128 : Shape := ⟨3, ![16384, 5, 128]⟩
abbrev S16384x1x128 : Shape := ⟨3, ![16384, 1, 128]⟩
abbrev S1x5x5 : Shape := ⟨3, ![1, 5, 5]⟩
abbrev S3x5x5 : Shape := ⟨3, ![3, 5, 5]⟩
abbrev S3x1x5x5 : Shape := ⟨4, ![3, 1, 5, 5]⟩
abbrev S3x5x16384x128 : Shape := ⟨4, ![3, 5, 16384, 128]⟩
abbrev S3x16384x5x128 : Shape := ⟨4, ![3, 16384, 5, 128]⟩
abbrev S3x128x128 : Shape := ⟨3, ![3, 128, 128]⟩
abbrev S17x1 : Shape := ⟨2, ![17, 1]⟩

abbrev nBuf : Space → Nat
  | .hbm => 154
  | .vmem => 0
  | .smem => 0
  | _ => 0

abbrev hbmTy0_0 (i : Nat) : BufTy := match i % 128 with
  | 0 => ⟨S16384x17x128, .f32⟩
  | 1 => ⟨S3x1x128x128, .f32⟩
  | 2 => ⟨S1x1x128, .f32⟩
  | 3 => ⟨S3, .i32⟩
  | 4 => ⟨S3, .i32⟩
  | 5 => ⟨S5, .i32⟩
  | 6 => ⟨S3, .i32⟩
  | 7 => ⟨S3, .i32⟩
  | 8 => ⟨S5x5, .f32⟩
  | 9 => ⟨S17, .i32⟩
  | 10 => ⟨S_, .i32⟩
  | 11 => ⟨S3, .i32⟩
  | 12 => ⟨S3, .i1⟩
  | 13 => ⟨S_, .i32⟩
  | 14 => ⟨S3, .i32⟩
  | 15 => ⟨S3, .i32⟩
  | 16 => ⟨S3, .i32⟩
  | 17 => ⟨S3x1, .i32⟩
  | 18 => ⟨S16384x3x128, .f32⟩
  | 19 => ⟨S_, .f32⟩
  | 20 => ⟨S16384x128, .f32⟩
  | 21 => ⟨S_, .f32⟩
  | 22 => ⟨S16384x128, .f32⟩
  | 23 => ⟨S16384x128, .f32⟩
  | 24 => ⟨S_, .i32⟩
  | 25 => ⟨S3, .i32⟩
  | 26 => ⟨S3, .i1⟩
  | 27 => ⟨S_, .i32⟩
  | 28 => ⟨S3, .i32⟩
  | 29 => ⟨S3, .i32⟩
  | 30 => ⟨S3, .i32⟩
  | 31 => ⟨S3x1, .i32⟩
  | 32 => ⟨S16384x3x128, .f32⟩
  | 33 => ⟨S_, .f32⟩
  | 34 => ⟨S16384x128, .f32⟩
  | 35 => ⟨S_, .f32⟩
  | 36 => ⟨S16384x128, .f32⟩
  | 37 => ⟨S16384x128, .f32⟩
  | 38 => ⟨S_, .i32⟩
  | 39 => ⟨S5, .i32⟩
  | 40 => ⟨S5, .i1⟩
  | 41 => ⟨S_, .i32⟩
  | 42 => ⟨S5, .i32⟩
  | 43 => ⟨S5, .i32⟩
  | 44 => ⟨S5, .i32⟩
  | 45 => ⟨S5x1, .i32⟩
  | 46 => ⟨S16384x5x128, .f32⟩
  | 47 => ⟨S_, .f32⟩
  | 48 => ⟨S16384x128, .f32⟩
  | 49 => ⟨S_, .f32⟩
  | 50 => ⟨S16384x128, .f32⟩
  | 51 => ⟨S16384x128, .f32⟩
  | 52 => ⟨S_, .i32⟩
  | 53 => ⟨S3, .i32⟩
  | 54 => ⟨S3, .i1⟩
  | 55 => ⟨S_, .i32⟩
  | 56 => ⟨S3, .i32⟩
  | 57 => ⟨S3, .i32⟩
  | 58 => ⟨S3, .i32⟩
  | 59 => ⟨S3x1, .i32⟩
  | 60 => ⟨S16384x3x128, .f32⟩
  | 61 => ⟨S_, .f32⟩
  | 62 => ⟨S16384x128, .f32⟩
  | 63 => ⟨S_, .f32⟩
  | 64 => ⟨S16384x128, .f32⟩
  | 65 => ⟨S16384x128, .f32⟩
  | 66 => ⟨S_, .i32⟩
  | 67 => ⟨S3, .i32⟩
  | 68 => ⟨S3, .i1⟩
  | 69 => ⟨S_, .i32⟩
  | 70 => ⟨S3, .i32⟩
  | 71 => ⟨S3, .i32⟩
  | 72 => ⟨S3, .i32⟩
  | 73 => ⟨S3x1, .i32⟩
  | 74 => ⟨S16384x3x128, .f32⟩
  | 75 => ⟨S_, .f32⟩
  | 76 => ⟨S16384x128, .f32⟩
  | 77 => ⟨S_, .f32⟩
  | 78 => ⟨S16384x128, .f32⟩
  | 79 => ⟨S16384x128, .f32⟩
  | 80 => ⟨S16384x1x128, .f32⟩
  | 81 => ⟨S16384x1x128, .f32⟩
  | 82 => ⟨S16384x1x128, .f32⟩
  | 83 => ⟨S16384x1x128, .f32⟩
  | 84 => ⟨S16384x1x128, .f32⟩
  | 85 => ⟨S16384x5x128, .f32⟩
  | 86 => ⟨S_, .f32⟩
  | 87 => ⟨S5, .f32⟩
  | 88 => ⟨S5x1, .f32⟩
  | 89 => ⟨S5x5, .f32⟩
  | 90 => ⟨S5x5, .f32⟩
  | 91 => ⟨S_, .f32⟩
  | 92 => ⟨S5, .f32⟩
  | 93 => ⟨S_, .f32⟩
  | 94 => ⟨S5, .f32⟩
  | 95 => ⟨S5, .f32⟩
  | 96 => ⟨S_, .f32⟩
  | 97 => ⟨S5, .f32⟩
  | 98 => ⟨S5x5, .i32⟩
  | 99 => ⟨S5x5, .i32⟩
  | 100 => ⟨S_, .i32⟩
  | 101 => ⟨S5x5, .i32⟩
  | 102 => ⟨S5x5, .i32⟩
  | 103 => ⟨S5x5, .i1⟩
  | 104 => ⟨S5x1, .f32⟩
  | 105 => ⟨S_, .f32⟩
  | 106 => ⟨S5x5, .f32⟩
  | 107 => ⟨S5x5, .f32⟩
  | 108 => ⟨S5x5, .f32⟩
  | 109 => ⟨S5x5, .i32⟩
  | 110 => ⟨S5x5, .i32⟩
  | 111 => ⟨S_, .i32⟩
  | 112 => ⟨S5x5, .i32⟩
  | 113 => ⟨S5x5, .i32⟩
  | 114 => ⟨S5x5, .i1⟩
  | 115 => ⟨S5x5, .f32⟩
  | 116 => ⟨S5x5, .f32⟩
  | 117 => ⟨S5x5, .f32⟩
  | 118 => ⟨S5x5, .f32⟩
  | 119 => ⟨S5x5, .i32⟩
  | 120 => ⟨S5x5, .i32⟩
  | 121 => ⟨S_, .i32⟩
  | 122 => ⟨S5x5, .i32⟩
  | 123 => ⟨S5x5, .i32⟩
  | 124 => ⟨S5x5, .i1⟩
  | 125 => ⟨S5x5, .f32⟩
  | 126 => ⟨S5x5, .f32⟩
  | 127 => ⟨S_, .f32⟩
  | _ => ⟨S16384x17x128, .f32⟩

abbrev hbmTy0_1 (i : Nat) : BufTy := match i % 128 with
  | 0 => ⟨S5x5, .f32⟩
  | 1 => ⟨S5x5, .f32⟩
  | 2 => ⟨S5x5, .f32⟩
  | 3 => ⟨S1x5x5, .f32⟩
  | 4 => ⟨S1x5x5, .f32⟩
  | 5 => ⟨S1x5x5, .f32⟩
  | 6 => ⟨S3x5x5, .f32⟩
  | 7 => ⟨S3x1x5x5, .f32⟩
  | 8 => ⟨S3x5x5, .f32⟩
  | 9 => ⟨S3x5x16384x128, .f32⟩
  | 10 => ⟨S3x16384x5x128, .f32⟩
  | 11 => ⟨S3x128x128, .f32⟩
  | 12 => ⟨S3x16384x5x128, .f32⟩
  | 13 => ⟨S_, .f32⟩
  | 14 => ⟨S16384x5x128, .f32⟩
  | 15 => ⟨S16384x5x128, .f32⟩
  | 16 => ⟨S16384x5x128, .f32⟩
  | 17 => ⟨S_, .i32⟩
  | 18 => ⟨S17, .i32⟩
  | 19 => ⟨S17, .i1⟩
  | 20 => ⟨S_, .i32⟩
  | 21 => ⟨S17, .i32⟩
  | 22 => ⟨S17, .i32⟩
  | 23 => ⟨S17, .i32⟩
  | 24 => ⟨S17x1, .i32⟩
  | 25 => ⟨S16384x17x128, .f32⟩
  | _ => ⟨S16384x17x128, .f32⟩

abbrev hbmTy (i : Nat) : BufTy := match i / 128 with
  | 0 => hbmTy0_0 i
  | 1 => hbmTy0_1 i
  | _ => ⟨S16384x17x128, .f32⟩

abbrev bufTy : (tb : Table) → Fin (tcTables nBuf tb) → BufTy
  | .hbm, ⟨i, _⟩ => hbmTy i
  | _, _ => ⟨S16384x17x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst : Ref sig .tc := ⟨.hbm, 8, rfl⟩
abbrev main_c_4 : Ref sig .tc := ⟨.hbm, 9, rfl⟩
abbrev main_c_5 : Ref sig .tc := ⟨.hbm, 10, rfl⟩
abbrev main_v0 : Ref sig .tc := ⟨.hbm, 11, rfl⟩
abbrev main_v1 : Ref sig .tc := ⟨.hbm, 12, rfl⟩
abbrev main_c_6 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_7 : Ref sig .tc := ⟨.hbm, 19, rfl⟩
abbrev main_v7 : Ref sig .tc := ⟨.hbm, 20, rfl⟩
abbrev main_cst_8 : Ref sig .tc := ⟨.hbm, 21, rfl⟩
abbrev main_v8 : Ref sig .tc := ⟨.hbm, 22, rfl⟩
abbrev main_v9 : Ref sig .tc := ⟨.hbm, 23, rfl⟩
abbrev main_c_9 : Ref sig .tc := ⟨.hbm, 24, rfl⟩
abbrev main_v10 : Ref sig .tc := ⟨.hbm, 25, rfl⟩
abbrev main_v11 : Ref sig .tc := ⟨.hbm, 26, rfl⟩
abbrev main_c_10 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_11 : Ref sig .tc := ⟨.hbm, 33, rfl⟩
abbrev main_v17 : Ref sig .tc := ⟨.hbm, 34, rfl⟩
abbrev main_cst_12 : Ref sig .tc := ⟨.hbm, 35, rfl⟩
abbrev main_v18 : Ref sig .tc := ⟨.hbm, 36, rfl⟩
abbrev main_v19 : Ref sig .tc := ⟨.hbm, 37, rfl⟩
abbrev main_c_13 : Ref sig .tc := ⟨.hbm, 38, rfl⟩
abbrev main_v20 : Ref sig .tc := ⟨.hbm, 39, rfl⟩
abbrev main_v21 : Ref sig .tc := ⟨.hbm, 40, rfl⟩
abbrev main_c_14 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_15 : Ref sig .tc := ⟨.hbm, 47, rfl⟩
abbrev main_v27 : Ref sig .tc := ⟨.hbm, 48, rfl⟩
abbrev main_cst_16 : Ref sig .tc := ⟨.hbm, 49, rfl⟩
abbrev main_v28 : Ref sig .tc := ⟨.hbm, 50, rfl⟩
abbrev main_v29 : Ref sig .tc := ⟨.hbm, 51, rfl⟩
abbrev main_c_17 : Ref sig .tc := ⟨.hbm, 52, rfl⟩
abbrev main_v30 : Ref sig .tc := ⟨.hbm, 53, rfl⟩
abbrev main_v31 : Ref sig .tc := ⟨.hbm, 54, rfl⟩
abbrev main_c_18 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_19 : Ref sig .tc := ⟨.hbm, 61, rfl⟩
abbrev main_v37 : Ref sig .tc := ⟨.hbm, 62, rfl⟩
abbrev main_cst_20 : Ref sig .tc := ⟨.hbm, 63, rfl⟩
abbrev main_v38 : Ref sig .tc := ⟨.hbm, 64, rfl⟩
abbrev main_v39 : Ref sig .tc := ⟨.hbm, 65, rfl⟩
abbrev main_c_21 : Ref sig .tc := ⟨.hbm, 66, rfl⟩
abbrev main_v40 : Ref sig .tc := ⟨.hbm, 67, rfl⟩
abbrev main_v41 : Ref sig .tc := ⟨.hbm, 68, rfl⟩
abbrev main_c_22 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_23 : Ref sig .tc := ⟨.hbm, 75, rfl⟩
abbrev main_v47 : Ref sig .tc := ⟨.hbm, 76, rfl⟩
abbrev main_cst_24 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_25 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_26 : Ref sig .tc := ⟨.hbm, 91, rfl⟩
abbrev main_v60 : Ref sig .tc := ⟨.hbm, 92, rfl⟩
abbrev main_cst_27 : Ref sig .tc := ⟨.hbm, 93, rfl⟩
abbrev main_v61 : Ref sig .tc := ⟨.hbm, 94, rfl⟩
abbrev main_v62 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_c : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_cst_0 : Ref sig .tc := ⟨.hbm, 105, rfl⟩
abbrev main_call0_call0_v0 : Ref sig .tc := ⟨.hbm, 106, rfl⟩
abbrev main_call0_call0_v1 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_c_28 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_29 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_30 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_31 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_c_32 : Ref sig .tc := ⟨.hbm, 145, rfl⟩
abbrev main_v96 : Ref sig .tc := ⟨.hbm, 146, rfl⟩
abbrev main_v97 : Ref sig .tc := ⟨.hbm, 147, rfl⟩
abbrev main_c_33 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩

abbrev nD : Nat := 1
abbrev τ : Topo := Topo.v7x

variable {F : FTy → Type} [FloatOps F]
-- ==== Proof.Names.lean ====
module

public import proofs.«01_k».proof.Proof.Gen.KernelIdeal.Frame
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

/-! ## The arrays and cells the body moves data between -/

/-- The array `x`, whole. -/
abbrev xM : Memref sig .tc .hbm S16384x17x128 .f32 := Memref.whole main_arg0
/-- The result array, whole. -/
abbrev yM : Memref sig .tc .hbm S16384x17x128 .f32 := Memref.whole main_v2
/-- The six input slots. -/
abbrev inM : Memref sig .tc .vmem S6x256x17x128 .f32 := Memref.whole cc0_scratch0
/-- The six output slots. -/
abbrev outM : Memref sig .tc .vmem S6x256x17x128 .f32 := Memref.whole cc0_scratch1

/-- Half `k` of slot `s` lies within the slot buffer. -/
theorem inb_half (s : Fin 6) (k : Fin 2) : ∀ a, (![s.val, 128 * k.val, 0, 0] : Fin 4 → Nat) a + S1x128x17x128.size a ≤ S6x256x17x128.size a := by
  have := s.isLt; have := k.isLt; intro a; fin_cases a <;> simp <;> omega
/-- Slot `s` lies within the slot buffer. -/
theorem inb_slot (s : Fin 6) : ∀ a, (![s.val, 0, 0, 0] : Fin 4 → Nat) a + S1x256x17x128.size a ≤ S6x256x17x128.size a := by
  have := s.isLt; intro a; fin_cases a <;> simp <;> omega
/-- The rows of half `k` of block `b` lie within the array. -/
theorem inb_rows (b : Fin 64) (k : Fin 2) : ∀ a, (![256 * b.val + 128 * k.val, 0, 0] : Fin 3 → Nat) a + S128x17x128.size a ≤ S16384x17x128.size a := by
  have := b.isLt; have := k.isLt; intro a; fin_cases a <;> simp <;> omega
/-- The semaphore numbered `s` is one of the six. -/
theorem inb_cell (s : Fin 6) : ∀ a, (![s.val] : Fin 1 → Nat) a + S1.size a ≤ S6.size a := by
  have := s.isLt; intro a; fin_cases a <;> simp <;> omega

/-- Half `k` of input slot `s`. -/
def inHalf (s : Fin 6) (k : Fin 2) : Memref sig .tc .vmem S128x17x128 .f32 :=
  (inM.slice (Rect.unit (s := S6x256x17x128) ![s.val, 128 * k.val, 0, 0] S1x128x17x128.size (inb_half s k)) (fun _ => rfl)).squeeze S128x17x128 squeezes_S1x128x17x128_S128x17x128
/-- Half `k` of output slot `s`. -/
def outHalf (s : Fin 6) (k : Fin 2) : Memref sig .tc .vmem S128x17x128 .f32 :=
  (outM.slice (Rect.unit (s := S6x256x17x128) ![s.val, 128 * k.val, 0, 0] S1x128x17x128.size (inb_half s k)) (fun _ => rfl)).squeeze S128x17x128 squeezes_S1x128x17x128_S128x17x128
/-- The rows of `x` that are half `k` of block `b`. -/
def xHalf (b : Fin 64) (k : Fin 2) : Memref sig .tc .hbm S128x17x128 .f32 :=
  xM.slice (Rect.unit (s := S16384x17x128) ![256 * b.val + 128 * k.val, 0, 0] S128x17x128.size (inb_rows b k)) (fun _ => rfl)
/-- The rows of the result that are half `k` of block `b`. -/
def yHalf (b : Fin 64) (k : Fin 2) : Memref sig .tc .hbm S128x17x128 .f32 :=
  yM.slice (Rect.unit (s := S16384x17x128) ![256 * b.val + 128 * k.val, 0, 0] S128x17x128.size (inb_rows b k)) (fun _ => rfl)
/-- The semaphore of input slot `s`. -/
def cellI (s : Fin 6) : DmaSems sig S_ := (cc0_scratch2.slice (Rect.unit (s := S6) ![s.val] S1.size (inb_cell s))).squeeze S_ squeezes_S1_S_
/-- The semaphore of output slot `s`. -/
def cellO (s : Fin 6) : DmaSems sig S_ := (cc0_scratch3.slice (Rect.unit (s := S6) ![s.val] S1.size (inb_cell s))).squeeze S_ squeezes_S1_S_
/-- The place of the semaphore of input slot `s`. -/
abbrev semI (s : Fin 6) : SemLoc sig := SemLoc.dma (cellI s).sem
/-- The place of the semaphore of output slot `s`. -/
abbrev semO (s : Fin 6) : SemLoc sig := SemLoc.dma (cellO s).sem

/-- The slot of step `n`. -/
abbrev sl (n : ℕ) : Fin 6 := ⟨n % 6, Nat.mod_lt _ (by decide)⟩
/-- The block numbered `n`. -/
abbrev bk (n : ℕ) : Fin 64 := ⟨n % 64, Nat.mod_lt _ (by decide)⟩

/-! ## The body's offsets, in those names -/

section Offsets
/-- The semaphore of the block fetched ahead is that of the slot of step `t + 5`. -/
theorem off1_eq : ∀ t : Fin grid0.N, k0_off1 (grid0.coords t) = ![(sl (t.val + 5)).val] := by decide +kernel
/-- The first half fetched ahead goes to half 0 of that slot, -/
theorem off2_eq : ∀ t : Fin grid0.N, k0_off2 (grid0.coords t) = ![(sl (t.val + 5)).val, 128 * (0 : Fin 2).val, 0, 0] := by decide +kernel
/-- and the second to half 1. -/
theorem off4_eq : ∀ t : Fin grid0.N, k0_off4 (grid0.coords t) = ![(sl (t.val + 5)).val, 128 * (1 : Fin 2).val, 0, 0] := by decide +kernel
/-- The first half fetched ahead comes from half 0 of block `t + 5`, -/
theorem off3_eq0 : ∀ t : Fin grid0.N, k0_cond2 (grid0.coords t) = 1#1 → k0_off3 (grid0.coords t) 0#32 = ![256 * (bk (t.val + 5)).val + 128 * (0 : Fin 2).val, 0, 0] := by decide +kernel
/-- and the second from half 1. -/
theorem off3_eq1 : ∀ t : Fin grid0.N, k0_cond2 (grid0.coords t) = 1#1 → k0_off3 (grid0.coords t) 128#32 = ![256 * (bk (t.val + 5)).val + 128 * (1 : Fin 2).val, 0, 0] := by decide +kernel
/-- The input semaphore awaited, and the output one used, at step `t` are those of its slot. -/
theorem off5_eq : ∀ t : Fin grid0.N, k0_off5 (grid0.coords t) = ![(sl t.val).val] := by decide +kernel
/-- Half 0 of the slot of step `t`, -/
theorem off6_eq : ∀ t : Fin grid0.N, k0_off6 (grid0.coords t) = ![(sl t.val).val, 128 * (0 : Fin 2).val, 0, 0] := by decide +kernel
/-- and half 1. -/
theorem off7_eq : ∀ t : Fin grid0.N, k0_off7 (grid0.coords t) = ![(sl t.val).val, 128 * (1 : Fin 2).val, 0, 0] := by decide +kernel
/-- The slot of step `t`, whole. -/
theorem off8_eq : ∀ t : Fin grid0.N, k0_off8 (grid0.coords t) = ![(sl t.val).val, 0, 0, 0] := by decide +kernel
/-- The output semaphore awaited before step `t` stores is that of its slot. -/
theorem off9_eq : ∀ t : Fin grid0.N, k0_off9 (grid0.coords t) = ![(sl t.val).val] := by decide +kernel
/-- The first half awaited before the store is half 0 of the slot, -/
theorem off10_eq : ∀ t : Fin grid0.N, k0_off10 (grid0.coords t) = ![(sl t.val).val, 128 * (0 : Fin 2).val, 0, 0] := by decide +kernel
/-- and the second half 1. -/
theorem off11_eq : ∀ t : Fin grid0.N, k0_off11 (grid0.coords t) = ![(sl t.val).val, 128 * (1 : Fin 2).val, 0, 0] := by decide +kernel
/-- The first half written back goes to half 0 of block `t`, -/
theorem off12_eq0 : ∀ t : Fin grid0.N, k0_off12 (grid0.coords t) 0#32 = ![256 * (bk t.val).val + 128 * (0 : Fin 2).val, 0, 0] := by decide +kernel
/-- and the second to half 1. -/
theorem off12_eq1 : ∀ t : Fin grid0.N, k0_off12 (grid0.coords t) 128#32 = ![256 * (bk t.val).val + 128 * (1 : Fin 2).val, 0, 0] := by decide +kernel
/-- A block is fetched ahead when block `t + 5` exists. -/
theorem cond2_iff : ∀ t : Fin grid0.N, k0_cond2 (grid0.coords t) = 1#1 ↔ t.val + 5 < 64 := by decide +kernel
/-- An old block is awaited from step 6 on. -/
theorem cond3_iff : ∀ t : Fin grid0.N, k0_cond3 (grid0.coords t) = 1#1 ↔ 6 ≤ t.val := by decide +kernel
/-- The output slots are drained at the last step only. -/
theorem cond4_iff : ∀ t : Fin grid0.N, k0_cond4 (grid0.coords t) = 1#1 ↔ t.val = 63 := by decide +kernel
/-- The semaphores drained at the last step are those of the five next slots in turn. -/
theorem off13_eq : ∀ t : Fin grid0.N, t.val = 63 → ∀ r : Fin 5, k0_off13 (grid0.coords t) (BitVec.ofNat 32 (r.val + 1)) = ![(sl (t.val + r.val + 1)).val] := by decide +kernel
/-- The first halves drained there are their halves 0, -/
theorem off14_eq : ∀ t : Fin grid0.N, t.val = 63 → ∀ r : Fin 5, k0_off14 (grid0.coords t) (BitVec.ofNat 32 (r.val + 1)) = ![(sl (t.val + r.val + 1)).val, 128 * (0 : Fin 2).val, 0, 0] := by decide +kernel
/-- and the second ones their halves 1. -/
theorem off15_eq : ∀ t : Fin grid0.N, t.val = 63 → ∀ r : Fin 5, k0_off15 (grid0.coords t) (BitVec.ofNat 32 (r.val + 1)) = ![(sl (t.val + r.val + 1)).val, 128 * (1 : Fin 2).val, 0, 0] := by decide +kernel
/-- The last semaphore drained is that of the slot of step `t`. -/
theorem off16_eq : ∀ t : Fin grid0.N, k0_off16 (grid0.coords t) = ![(sl t.val).val] := by decide +kernel
/-- The last slot's half 0, -/
theorem off17_eq : ∀ t : Fin grid0.N, k0_off17 (grid0.coords t) = ![(sl t.val).val, 128 * (0 : Fin 2).val, 0, 0] := by decide +kernel
/-- and its half 1. -/
theorem off18_eq : ∀ t : Fin grid0.N, k0_off18 (grid0.coords t) = ![(sl t.val).val, 128 * (1 : Fin 2).val, 0, 0] := by decide +kernel
end Offsets

/-- A slice of the input slots at the offsets of half `k` of slot `s` is that half. -/
theorem inHalf_of {o : Fin 4 → ℕ} (h : ∀ a, o a + S1x128x17x128.size a ≤ S6x256x17x128.size a) (s : Fin 6) (k : Fin 2) (e : o = ![s.val, 128 * k.val, 0, 0]) :
    (inM.slice (Rect.unit (s := S6x256x17x128) o S1x128x17x128.size h) (fun _ => rfl)).squeeze S128x17x128 squeezes_S1x128x17x128_S128x17x128 = inHalf s k := by
  subst e; rfl
/-- A slice of the output slots at the offsets of half `k` of slot `s` is that half. -/
theorem outHalf_of {o : Fin 4 → ℕ} (h : ∀ a, o a + S1x128x17x128.size a ≤ S6x256x17x128.size a) (s : Fin 6) (k : Fin 2) (e : o = ![s.val, 128 * k.val, 0, 0]) :
    (outM.slice (Rect.unit (s := S6x256x17x128) o S1x128x17x128.size h) (fun _ => rfl)).squeeze S128x17x128 squeezes_S1x128x17x128_S128x17x128 = outHalf s k := by
  subst e; rfl
/-- A slice of `x` at the offsets of half `k` of block `b` is that half. -/
theorem xHalf_of {o : Fin 3 → ℕ} (h : ∀ a, o a + S128x17x128.size a ≤ S16384x17x128.size a) (b : Fin 64) (k : Fin 2) (e : o = ![256 * b.val + 128 * k.val, 0, 0]) :
    xM.slice (Rect.unit (s := S16384x17x128) o S128x17x128.size h) (fun _ => rfl) = xHalf b k := by
  subst e; rfl
/-- A slice of the result at the offsets of half `k` of block `b` is that half. -/
theorem yHalf_of {o : Fin 3 → ℕ} (h : ∀ a, o a + S128x17x128.size a ≤ S16384x17x128.size a) (b : Fin 64) (k : Fin 2) (e : o = ![256 * b.val + 128 * k.val, 0, 0]) :
    yM.slice (Rect.unit (s := S16384x17x128) o S128x17x128.size h) (fun _ => rfl) = yHalf b k := by
  subst e; rfl
/-- A slice of the input semaphores at offset `s` is the semaphore of slot `s`. -/
theorem cellI_of {o : Fin 1 → ℕ} (h : ∀ a, o a + S1.size a ≤ S6.size a) (s : Fin 6) (e : o = ![s.val]) :
    (cc0_scratch2.slice (Rect.unit (s := S6) o S1.size h)).squeeze S_ squeezes_S1_S_ = cellI s := by subst e; rfl
/-- A slice of the output semaphores at offset `s` is the semaphore of slot `s`. -/
theorem cellO_of {o : Fin 1 → ℕ} (h : ∀ a, o a + S1.size a ≤ S6.size a) (s : Fin 6) (e : o = ![s.val]) :
    (cc0_scratch3.slice (Rect.unit (s := S6) o S1.size h)).squeeze S_ squeezes_S1_S_ = cellO s := by subst e; rfl

end Cert.Proof

end
-- ==== Proof.Body.lean ====
module

public import proofs.«01_k».proof.Proof.Names
public import proofs.«01_k».proof.Proof.Gen.KernelIdeal.Skeleton
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

/-! ## The body in those names -/

variable {F : FTy → Type} [FloatOps F] [Named F]

/-- A program of the kernel's body, with a value of type `α`. -/
abbrev BodyProg (F : FTy → Type) [FloatOps F] [Named F] (α : Type) := Prog (TpuEff nD τ sig (Elt F) Λ₀ .tc) α

/-- Half an input slot is made of whole words; -/
theorem we_in (s : Fin 6) (k : Fin 2) : (inHalf s k).view.WordExact := (View.wordExact_bits rfl).reshape _ _
/-- so is half an output slot, -/
theorem we_out (s : Fin 6) (k : Fin 2) : (outHalf s k).view.WordExact := (View.wordExact_bits rfl).reshape _ _
/-- half a block of `x`, -/
theorem we_x (b : Fin 64) (k : Fin 2) : (xHalf b k).view.WordExact := View.wordExact_bits rfl
/-- and half a block of the result. -/
theorem we_y (b : Fin 64) (k : Fin 2) : (yHalf b k).view.WordExact := View.wordExact_bits rfl

/-- Start the copy of half `k` of block `b` of `x` into input slot `s`. -/
def startHalf (s : Fin 6) (b : Fin 64) (k : Fin 2) : BodyProg F PUnit :=
  Prog.lift (.enqueueDma (xHalf b k) (.here (inHalf s k)) (.dma (cellI s).sem) (we_x b k) (we_in s k) ⟨Or.inl rfl, trivial⟩)
/-- Start both halves of block `b` into input slot `s`. -/
def startBlock (s : Fin 6) (b : Fin 64) : BodyProg F PUnit := do
  startHalf s b 0
  startHalf s b 1
/-- Wait for half `k` of input slot `s`. -/
def waitInHalf (s : Fin 6) (k : Fin 2) : BodyProg F PUnit :=
  Prog.lift (.waitDma2 (cellI s).sem (xHalf 0 k) (inHalf s k) (we_x 0 k) (we_in s k))
/-- Wait for both halves of input slot `s`. -/
def waitIn (s : Fin 6) : BodyProg F PUnit := do
  waitInHalf s 0
  waitInHalf s 1
/-- Start the copy of half `k` of output slot `s` to block `b` of the result. -/
def putHalf (s : Fin 6) (b : Fin 64) (k : Fin 2) : BodyProg F PUnit :=
  Prog.lift (.enqueueDma (outHalf s k) (.here (yHalf b k)) (.dma (cellO s).sem) (we_out s k) (we_y b k) ⟨Or.inl rfl, trivial⟩)
/-- Start both halves of output slot `s` to block `b` of the result. -/
def putBlock (s : Fin 6) (b : Fin 64) : BodyProg F PUnit := do
  putHalf s b 0
  putHalf s b 1
/-- Wait for half `k` of output slot `s`. -/
def waitOutHalf (s : Fin 6) (k : Fin 2) : BodyProg F PUnit :=
  Prog.lift (.waitDma2 (cellO s).sem (outHalf s k) (yHalf 0 k) (we_out s k) (we_y 0 k))
/-- Wait for both halves of output slot `s`. -/
def waitOut (s : Fin 6) : BodyProg F PUnit := do
  waitOutHalf s 0
  waitOutHalf s 1
/-- Run `p` when `c` holds. -/
def opt (c : Prop) [Decidable c] (p : BodyProg F PUnit) : BodyProg F PUnit := if c then p else pure ⟨⟩
/-- Where the condition holds, `opt` runs the program; -/
theorem opt_pos {c : Prop} [Decidable c] (h : c) (p : BodyProg F PUnit) : opt c p = p := if_pos h
/-- elsewhere it does nothing. -/
theorem opt_neg {c : Prop} [Decidable c] (h : ¬ c) (p : BodyProg F PUnit) : opt c p = pure ⟨⟩ := if_neg h
/-- What the first step does first: start blocks 0 to 4. -/
def prologue : BodyProg F PUnit := do
  startBlock 0 0
  startBlock 1 1
  startBlock 2 2
  startBlock 3 3
  startBlock 4 4
/-- What the last step does last: wait for every output slot, the oldest first. -/
def drain : BodyProg F PUnit := do
  waitOut 4
  waitOut 5
  waitOut 0
  waitOut 1
  waitOut 2
  waitOut 3
/-- The box of slot `s`. -/
abbrev slotRect (s : Fin 6) : Rect S6x256x17x128 := Rect.unit (s := S6x256x17x128) ![s.val, 0, 0, 0] S1x256x17x128.size (inb_slot s)
/-- Load input slot `s`. -/
def loadIn (s : Fin 6) : BodyProg F (Vec F S1x256x17x128 .f32) :=
  Prog.lift (.load inM (slotRect s).toLoadRect (View.loadsAt_vmem h_S1x256x17x128))
/-- Load output slot `s`. -/
def loadOut (s : Fin 6) : BodyProg F (Vec F S1x256x17x128 .f32) :=
  Prog.lift (.load outM (slotRect s).toLoadRect (View.loadsAt_vmem h_S1x256x17x128))
/-- Store `v` into output slot `s`. -/
def storeOut (s : Fin 6) (v : Vec F S1x256x17x128 .f32) : BodyProg F PUnit :=
  Prog.lift (.store outM (slotRect s) v Finset.univ (View.stores_vmem_bits_univ h_S1x256x17x128 rfl) (.inl rfl))

section Same
variable (t : Fin grid0.N)

/-- The body's first condition holds at the first step only. -/
theorem cond1_iff : ∀ t : Fin grid0.N, (Scalar.cmpi .ne (Scalar.extui (Scalar.cmpi .eq (BitVec.ofNat 32 ((grid0.coords t) 0).val) 0#32)) 0#32 : BitVec 1) = 1#1 ↔ t.val = 0 := by decide +kernel

/-- A copy into the input slots at the offsets of half `k` of slot `s` and of block `b` is `startHalf`. -/
theorem start_of {o1 : Fin 3 → ℕ} {o2 : Fin 4 → ℕ} {o3 : Fin 1 → ℕ} {s : Fin 6} {b : Fin 64} {k : Fin 2}
    (e1 : o1 = ![256 * b.val + 128 * k.val, 0, 0]) (e2 : o2 = ![s.val, 128 * k.val, 0, 0]) (e3 : o3 = ![s.val])
    {h1 : ∀ a, o1 a + S128x17x128.size a ≤ S16384x17x128.size a} {h2 : ∀ a, o2 a + S1x128x17x128.size a ≤ S6x256x17x128.size a} {h3 : ∀ a, o3 a + S1.size a ≤ S6.size a}
    {p1 p2 p3} :
    (Prog.lift (.enqueueDma (xM.slice (Rect.unit (s := S16384x17x128) o1 S128x17x128.size h1) (fun _ => rfl))
        (.here ((inM.slice (Rect.unit (s := S6x256x17x128) o2 S1x128x17x128.size h2) (fun _ => rfl)).squeeze S128x17x128 squeezes_S1x128x17x128_S128x17x128))
        (.dma ((cc0_scratch2.slice (Rect.unit (s := S6) o3 S1.size h3)).squeeze S_ squeezes_S1_S_).sem) p1 p2 p3) : BodyProg F PUnit) = startHalf s b k := by
  subst e1; subst e2; subst e3; rfl

/-- A copy out of the output slots at the offsets of half `k` of slot `s` and of block `b` is `putHalf`. -/
theorem put_of {o1 : Fin 3 → ℕ} {o2 : Fin 4 → ℕ} {o3 : Fin 1 → ℕ} {s : Fin 6} {b : Fin 64} {k : Fin 2}
    (e1 : o1 = ![256 * b.val + 128 * k.val, 0, 0]) (e2 : o2 = ![s.val, 128 * k.val, 0, 0]) (e3 : o3 = ![s.val])
    {h1 : ∀ a, o1 a + S128x17x128.size a ≤ S16384x17x128.size a} {h2 : ∀ a, o2 a + S1x128x17x128.size a ≤ S6x256x17x128.size a} {h3 : ∀ a, o3 a + S1.size a ≤ S6.size a}
    {p1 p2 p3} :
    (Prog.lift (.enqueueDma ((outM.slice (Rect.unit (s := S6x256x17x128) o2 S1x128x17x128.size h2) (fun _ => rfl)).squeeze S128x17x128 squeezes_S1x128x17x128_S128x17x128)
        (.here (yM.slice (Rect.unit (s := S16384x17x128) o1 S128x17x128.size h1) (fun _ => rfl)))
        (.dma ((cc0_scratch3.slice (Rect.unit (s := S6) o3 S1.size h3)).squeeze S_ squeezes_S1_S_).sem) p1 p2 p3) : BodyProg F PUnit) = putHalf s b k := by
  subst e1; subst e2; subst e3; rfl

/-- A wait on an input semaphore at those offsets is `waitInHalf`. -/
theorem waitIn_of {o1 : Fin 3 → ℕ} {o2 : Fin 4 → ℕ} {o3 : Fin 1 → ℕ} {s : Fin 6} {k : Fin 2}
    (e1 : o1 = ![256 * (0 : Fin 64).val + 128 * k.val, 0, 0]) (e2 : o2 = ![s.val, 128 * k.val, 0, 0]) (e3 : o3 = ![s.val])
    {h1 : ∀ a, o1 a + S128x17x128.size a ≤ S16384x17x128.size a} {h2 : ∀ a, o2 a + S1x128x17x128.size a ≤ S6x256x17x128.size a} {h3 : ∀ a, o3 a + S1.size a ≤ S6.size a}
    {p1 p2} :
    (Prog.lift (.waitDma2 ((cc0_scratch2.slice (Rect.unit (s := S6) o3 S1.size h3)).squeeze S_ squeezes_S1_S_).sem (xM.slice (Rect.unit (s := S16384x17x128) o1 S128x17x128.size h1) (fun _ => rfl))
        ((inM.slice (Rect.unit (s := S6x256x17x128) o2 S1x128x17x128.size h2) (fun _ => rfl)).squeeze S128x17x128 squeezes_S1x128x17x128_S128x17x128) p1 p2) : BodyProg F PUnit) = waitInHalf s k := by
  subst e1; subst e2; subst e3; rfl

/-- A wait on an output semaphore at those offsets is `waitOutHalf`. -/
theorem waitOut_of {o1 : Fin 3 → ℕ} {o2 : Fin 4 → ℕ} {o3 : Fin 1 → ℕ} {s : Fin 6} {k : Fin 2}
    (e1 : o1 = ![256 * (0 : Fin 64).val + 128 * k.val, 0, 0]) (e2 : o2 = ![s.val, 128 * k.val, 0, 0]) (e3 : o3 = ![s.val])
    {h1 : ∀ a, o1 a + S128x17x128.size a ≤ S16384x17x128.size a} {h2 : ∀ a, o2 a + S1x128x17x128.size a ≤ S6x256x17x128.size a} {h3 : ∀ a, o3 a + S1.size a ≤ S6.size a}
    {p1 p2} :
    (Prog.lift (.waitDma2 ((cc0_scratch3.slice (Rect.unit (s := S6) o3 S1.size h3)).squeeze S_ squeezes_S1_S_).sem
        ((outM.slice (Rect.unit (s := S6x256x17x128) o2 S1x128x17x128.size h2) (fun _ => rfl)).squeeze S128x17x128 squeezes_S1x128x17x128_S128x17x128)
        (yM.slice (Rect.unit (s := S16384x17x128) o1 S128x17x128.size h1) (fun _ => rfl)) p1 p2) : BodyProg F PUnit) = waitOutHalf s k := by
  subst e1; subst e2; subst e3; rfl

/-- A load of the input slots at the offsets of slot `s` is `loadIn`. -/
theorem loadIn_of {o : Fin 4 → ℕ} {s : Fin 6} (e : o = ![s.val, 0, 0, 0]) {h : ∀ a, o a + S1x256x17x128.size a ≤ S6x256x17x128.size a} {p} :
    (Prog.lift (.load inM (Rect.unit (s := S6x256x17x128) o S1x256x17x128.size h).toLoadRect p) : BodyProg F (Vec F S1x256x17x128 .f32)) = loadIn s := by
  subst e; rfl
/-- A load of the output slots at the offsets of slot `s` is `loadOut`. -/
theorem loadOut_of {o : Fin 4 → ℕ} {s : Fin 6} (e : o = ![s.val, 0, 0, 0]) {h : ∀ a, o a + S1x256x17x128.size a ≤ S6x256x17x128.size a} {p} :
    (Prog.lift (.load outM (Rect.unit (s := S6x256x17x128) o S1x256x17x128.size h).toLoadRect p) : BodyProg F (Vec F S1x256x17x128 .f32)) = loadOut s := by
  subst e; rfl
/-- A store into the output slots at the offsets of slot `s` is `storeOut`. -/
theorem storeOut_of {o : Fin 4 → ℕ} {s : Fin 6} (e : o = ![s.val, 0, 0, 0]) {h : ∀ a, o a + S1x256x17x128.size a ≤ S6x256x17x128.size a} {v : Vec F S1x256x17x128 .f32} {p q} :
    (Prog.lift (.store outM (Rect.unit (s := S6x256x17x128) o S1x256x17x128.size h) v Finset.univ p q) : BodyProg F PUnit) = storeOut s v := by
  subst e; rfl

variable (arg2 : Memref sig .tc .vmem S384x128 .f32) (harg2 : arg2.IsWhole) (arg3 : Memref sig .tc .vmem S1x128 .f32) (harg3 : arg3.IsWhole)

/-- The rows that a wait names are half 0 of block 0, -/
theorem rows0 : (![0, 0, 0] : Fin 3 → ℕ) = ![256 * (0 : Fin 64).val + 128 * (0 : Fin 2).val, 0, 0] := rfl
/-- or half 1 of it. -/
theorem rows1 : (![128, 0, 0] : Fin 3 → ℕ) = ![256 * (0 : Fin 64).val + 128 * (1 : Fin 2).val, 0, 0] := rfl

/-- The body up to the load of its block: the prologue, the fetch ahead, the wait and the load. -/
theorem part5_canon :
    k0_part5 (F := F) (grid0.coords t) xM (Memref.isWhole_whole main_arg0) arg2 harg2 arg3 harg3 yM (Memref.isWhole_whole main_v2) inM (Memref.isWhole_whole cc0_scratch0) outM (Memref.isWhole_whole cc0_scratch1) cc0_scratch2 cc0_scratch3
      = (do
          opt (t.val = 0) prologue
          opt (t.val + 5 < 64) (startBlock (sl (t.val + 5)) (bk (t.val + 5)))
          waitIn (sl t.val)
          let v ← loadIn (sl t.val)
          pure ⟨BitVec.ofNat 32 ((grid0.coords t) 0).val, Scalar.remsi (BitVec.ofNat 32 ((grid0.coords t) 0).val) 6#32, k0_pay1 v, k0_pay2 v, k0_pay3 (F := F)⟩) := by
  rw [k0_part5_eq_skeleton]; unfold k0_part5_skel
  simp only [k0_part1_eq_skeleton, k0_part2_eq_skeleton, k0_part1_skel, k0_part2_skel, cond1_iff t]
  simp only [waitIn_of (k := 0) rows0 (off6_eq t) (off5_eq t), waitIn_of (k := 1) rows1 (off7_eq t) (off5_eq t), loadIn_of (off8_eq t)]
  by_cases h0 : t.val = 0
  · have h2 : t.val + 5 < 64 := by omega
    have hc := (cond2_iff t).mpr h2
    simp only [dif_pos h0, opt_pos h0, dif_pos hc, opt_pos h2, start_of (off3_eq0 t hc) (off2_eq t) (off1_eq t), start_of (off3_eq1 t hc) (off4_eq t) (off1_eq t)]
    rfl
  · by_cases h2 : t.val + 5 < 64
    · have hc := (cond2_iff t).mpr h2
      simp only [dif_neg h0, opt_neg h0, dif_pos hc, opt_pos h2, start_of (off3_eq0 t hc) (off2_eq t) (off1_eq t), start_of (off3_eq1 t hc) (off4_eq t) (off1_eq t)]
      rfl
    · have hc : ¬ k0_cond2 (grid0.coords t) = 1#1 := fun h => h2 ((cond2_iff t).mp h)
      simp only [dif_neg h0, opt_neg h0, dif_neg hc, opt_neg h2]
      rfl

/-- The body around its store: the wait for the old block, the load of the slot and the store. -/
theorem part9_canon (a0 v0 : BitVec 32) (v58 v68 v78 v102 v107 v112 v155 v158 v161 : FVec F S256x128 .f32) (v163 : FVec F S1x128 .f32) (v165 : FVec F S384x128 .f32) (v169 : FVec F S256x128 .f32) (v170 : FVec F S256x384 .f32) (z : FVec F S256x128 .f32) :
    k0_part9 (F := F) (grid0.coords t) xM (Memref.isWhole_whole main_arg0) arg2 harg2 arg3 harg3 yM (Memref.isWhole_whole main_v2) inM (Memref.isWhole_whole cc0_scratch0) outM (Memref.isWhole_whole cc0_scratch1) cc0_scratch2 cc0_scratch3 a0 v0 v58 v68 v78 v102 v107 v112 v155 v158 v161 v163 v165 v169 v170 z
      = (do
          opt (6 ≤ t.val) (waitOut (sl t.val))
          let _ ← loadOut (F := F) (sl t.val)
          storeOut (sl t.val) (k0_pay25 v58 v68 v78 v102 v107 v112 v155 v158 v161 v163 v165 v169 v170 z)) := by
  rw [k0_part9_eq_skeleton]; unfold k0_part9_skel
  simp only [loadOut_of (off8_eq t), storeOut_of (off8_eq t)]
  by_cases h : 6 ≤ t.val
  · have hc := (cond3_iff t).mpr h
    simp only [dif_pos hc, opt_pos h, waitOut_of (k := 0) rows0 (off10_eq t) (off9_eq t), waitOut_of (k := 1) rows1 (off11_eq t) (off9_eq t)]
    rfl
  · have hc : ¬ k0_cond3 (grid0.coords t) = 1#1 := fun hc => h ((cond3_iff t).mp hc)
    simp only [dif_neg hc, opt_neg h]
    rfl

/-- What the body stores, from the block of `x`, the bias and the weights it loaded. -/
def tile (v : Vec F S1x256x17x128 .f32) (bias : Vec F S1x128 .f32) (w : Vec F S384x128 .f32) : Vec F S1x256x17x128 .f32 :=
  let v22 := k0_pay1 v
  let v30 := k0_pay2 v
  let v31 := k0_pay3 (F := F)
  let v32 := k0_pay4 v30 v31
  let v42 := k0_pay5 v22
  let v58 := k0_pay6 v22
  let v68 := k0_pay7 v22
  let v78 := k0_pay8 v22
  let v83 := k0_pay9 v22 v30 v31
  let v84 := k0_pay10 (F := F)
  let v88 := k0_pay11 v42 v58 v84
  let v102 := k0_pay12 v32 v42 v58 v68 v78
  let v107 := k0_pay13 v58 v68
  let v112 := k0_pay14 v58 v78
  let v117 := k0_pay15 v32 v42 v58 v68 v78 v83
  let v122 := k0_pay16 v32 v42 v58 v68 v78 v84
  let v127 := k0_pay17 v42 v58 v83 v84
  k0_pay25 v58 v68 v78 v102 v107 v112 (k0_pay18 v58 v102 v107 v112 v127 (Named.named κ "four_fifths" 0x3F4CCCCD#32)) (k0_pay19 v68 v102 v107) (k0_pay20 v78 v102 v112)
    (k0_pay21 bias) (k0_pay22 w) (k0_pay23 v32 v83 v117 bias w) (k0_pay24 v42 v88 v122) (constant S256x128 .f32 0x00000000#32)

/-- Load the bias. -/
def loadBias : BodyProg F (Vec F S1x128 .f32) :=
  Prog.lift (.load arg3 (Rect.unit (s := S1x128) ![0, 0] S1x128.size inb_S1x128_S1x128_0_0).toLoadRect (View.loadsAt_vmem h_S1x128))
/-- Load the weights. -/
def loadWeights : BodyProg F (Vec F S384x128 .f32) :=
  Prog.lift (.load arg2 (Rect.unit (s := S384x128) ![0, 0] S384x128.size inb_S384x128_S384x128_0_0).toLoadRect (View.loadsAt_vmem h_S384x128))

/-- The whole body at step `t`, in those names. -/
theorem body_canon :
    cc0__body (F := F) (grid0.coords t) xM (Memref.isWhole_whole main_arg0) arg2 harg2 arg3 harg3 yM (Memref.isWhole_whole main_v2) inM (Memref.isWhole_whole cc0_scratch0) outM (Memref.isWhole_whole cc0_scratch1) cc0_scratch2 cc0_scratch3
      = (do
          opt (t.val = 0) prologue
          opt (t.val + 5 < 64) (startBlock (sl (t.val + 5)) (bk (t.val + 5)))
          waitIn (sl t.val)
          let v ← loadIn (F := F) (sl t.val)
          let bias ← loadBias arg3
          let w ← loadWeights arg2
          opt (6 ≤ t.val) (waitOut (sl t.val))
          let _ ← loadOut (F := F) (sl t.val)
          storeOut (sl t.val) (tile v bias w)
          putBlock (sl t.val) (bk t.val)
          opt (t.val = 63) drain) := by
  rw [cc0__body_eq_skeleton]; unfold cc0__body_skel
  simp only [part5_canon, part9_canon, k0_part6_eq_skeleton, k0_part6_skel, k0_part7_eq_skeleton, k0_part7_skel, k0_part8_eq_skeleton, k0_part8_skel,
    put_of (off12_eq0 t) (off6_eq t) (off5_eq t), put_of (off12_eq1 t) (off7_eq t) (off5_eq t), bind_assoc, pure_bind]
  by_cases h : t.val = 63
  · have hc := (cond4_iff t).mpr h
    have e : ∀ r : Fin 5, sl (t.val + r.val + 1) = (![4, 5, 0, 1, 2] r : Fin 6) := fun r => by rw [h]; revert r; decide
    have e13 (r : Fin 5) (n : BitVec 32) (hn : n = BitVec.ofNat 32 (r.val + 1)) :=
      (congrArg (k0_off13 (grid0.coords t)) hn).trans ((off13_eq t h r).trans (congrArg (fun s : Fin 6 => (![s.val] : Fin 1 → ℕ)) (e r)))
    have e14 (r : Fin 5) (n : BitVec 32) (hn : n = BitVec.ofNat 32 (r.val + 1)) :=
      (congrArg (k0_off14 (grid0.coords t)) hn).trans ((off14_eq t h r).trans (congrArg (fun s : Fin 6 => (![s.val, 128 * (0 : Fin 2).val, 0, 0] : Fin 4 → ℕ)) (e r)))
    have e15 (r : Fin 5) (n : BitVec 32) (hn : n = BitVec.ofNat 32 (r.val + 1)) :=
      (congrArg (k0_off15 (grid0.coords t)) hn).trans ((off15_eq t h r).trans (congrArg (fun s : Fin 6 => (![s.val, 128 * (1 : Fin 2).val, 0, 0] : Fin 4 → ℕ)) (e r)))
    have e' : sl t.val = 3 := by rw [h]; rfl
    have e16 := (off16_eq t).trans (congrArg (fun s : Fin 6 => (![s.val] : Fin 1 → ℕ)) e')
    have e17 := (off17_eq t).trans (congrArg (fun s : Fin 6 => (![s.val, 128 * (0 : Fin 2).val, 0, 0] : Fin 4 → ℕ)) e')
    have e18 := (off18_eq t).trans (congrArg (fun s : Fin 6 => (![s.val, 128 * (1 : Fin 2).val, 0, 0] : Fin 4 → ℕ)) e')
    simp only [dif_pos hc, opt_pos h, k0_part3_eq_skeleton, k0_part3_skel, k0_part4_eq_skeleton, k0_part4_skel, bind_assoc, pure_bind,
      waitOut_of (s := 4) (k := 0) rows0 (e14 0 1#32 rfl) (e13 0 1#32 rfl), waitOut_of (s := 4) (k := 1) rows1 (e15 0 1#32 rfl) (e13 0 1#32 rfl),
      waitOut_of (s := 5) (k := 0) rows0 (e14 1 2#32 rfl) (e13 1 2#32 rfl), waitOut_of (s := 5) (k := 1) rows1 (e15 1 2#32 rfl) (e13 1 2#32 rfl),
      waitOut_of (s := 0) (k := 0) rows0 (e14 2 3#32 rfl) (e13 2 3#32 rfl), waitOut_of (s := 0) (k := 1) rows1 (e15 2 3#32 rfl) (e13 2 3#32 rfl),
      waitOut_of (s := 1) (k := 0) rows0 (e14 3 4#32 rfl) (e13 3 4#32 rfl), waitOut_of (s := 1) (k := 1) rows1 (e15 3 4#32 rfl) (e13 3 4#32 rfl),
      waitOut_of (s := 2) (k := 0) rows0 (e14 4 5#32 rfl) (e13 4 5#32 rfl), waitOut_of (s := 2) (k := 1) rows1 (e15 4 5#32 rfl) (e13 4 5#32 rfl),
      waitOut_of (s := 3) (k := 0) rows0 e17 e16, waitOut_of (s := 3) (k := 1) rows1 e18 e16]
    rfl
  · have hc : ¬ k0_cond4 (grid0.coords t) = 1#1 := fun hc => h ((cond4_iff t).mp hc)
    simp only [dif_neg hc, opt_neg h, bind_assoc, pure_bind]
    rfl
end Same

end Cert.Proof

end
-- ==== Proof.Slots.lean ====
module

public import proofs.«01_k».proof.Proof.Body
public import Idealize.ShloMosaic.Lib.ValueIdxCore
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

/-! ## Where the halves sit -/

/-- The row of an array of 64 blocks of 256 that is row `r` of block `b`. -/
abbrev rowOf (b : Fin 64) (r : Fin 256) : Fin 16384 := ⟨256 * b.val + r.val, by omega⟩
/-- The row of a block that is row `r` of its half `k`. -/
abbrev halfRow (k : Fin 2) (r : Fin 128) : Fin 256 := ⟨128 * k.val + r.val, by omega⟩

/-- What a slot holds when block `b` of the array `A` is in it. -/
def spread {α : Type} (A : S16384x17x128.Idx → α) (b : Fin 64) : S6x256x17x128.Idx → α :=
  fun i => A (ix3 (rowOf b (i 1)) (i 2) (i 3))

/-- Element `j` of half `k` of slot `s` is element `j` of the slot's rows from `128 k` on. -/
theorem slotHalf_emb (M : Memref sig .tc .vmem S6x256x17x128 .f32) (s : Fin 6) (k : Fin 2) (j : S128x17x128.Idx) :
    ((M.slice (Rect.unit (s := S6x256x17x128) ![s.val, 128 * k.val, 0, 0] S1x128x17x128.size (inb_half s k)) (fun _ => rfl)).squeeze S128x17x128 squeezes_S1x128x17x128_S128x17x128).view.emb j
      = M.view.emb (ix4 s (halfRow k (j 0)) (j 1) (j 2)) := by
  have h := shapeCast_dropUnit_apply (α := S1x128x17x128.Idx) ![128, 17, 128] (fun i => i) (by decide) j
  have h' : (Shape.reshapeEquiv squeezes_S1x128x17x128_S128x17x128.numel_eq j : S1x128x17x128.Idx) = Fin.cons ⟨0, Nat.one_pos⟩ j := h
  refine congrArg M.view.emb ?_
  refine (congrArg (Rect.unit (s := S6x256x17x128) ![s.val, 128 * k.val, 0, 0] S1x128x17x128.size (inb_half s k)).emb h').trans ?_
  funext a
  apply Fin.ext
  rw [Rect.emb_apply]
  match a with
  | ⟨0, _⟩ => rfl
  | ⟨1, _⟩ => exact congrArg (128 * k.val + ·) (Nat.one_mul _)
  | ⟨2, _⟩ => exact (Nat.zero_add _).trans (Nat.one_mul _)
  | ⟨3, _⟩ => exact (Nat.zero_add _).trans (Nat.one_mul _)

/-- Element `j` of half `k` of block `b` is element `j` of the array's rows from `256 b + 128 k` on. -/
theorem rows_emb (M : Memref sig .tc .hbm S16384x17x128 .f32) (b : Fin 64) (k : Fin 2) (j : S128x17x128.Idx) :
    (M.slice (Rect.unit (s := S16384x17x128) ![256 * b.val + 128 * k.val, 0, 0] S128x17x128.size (inb_rows b k)) (fun _ => rfl)).view.emb j
      = M.view.emb (ix3 (rowOf b (halfRow k (j 0))) (j 1) (j 2)) := by
  refine congrArg M.view.emb ?_
  funext a
  apply Fin.ext
  rw [Rect.emb_apply]
  match a with
  | ⟨0, _⟩ => exact (congrArg (256 * b.val + 128 * k.val + ·) (Nat.one_mul _)).trans (Nat.add_assoc _ _ _)
  | ⟨1, _⟩ => exact (Nat.zero_add _).trans (Nat.one_mul _)
  | ⟨2, _⟩ => exact (Nat.zero_add _).trans (Nat.one_mul _)

/-- Element `j` of slot `s` is the buffer's element at `s` and the rest of `j`. -/
theorem slot_emb (M : Memref sig .tc .vmem S6x256x17x128 .f32) (s : Fin 6) (j : S1x256x17x128.Idx) :
    (M.access (slotRect s)).emb j = M.view.emb (ix4 s (j 1) (j 2) (j 3)) := by
  refine congrArg M.view.emb ?_
  have h0 : (j 0).val = 0 := by have := (j 0).isLt; simp at this; omega
  funext a
  apply Fin.ext
  rw [Rect.emb_apply]
  match a with
  | ⟨0, _⟩ => exact (congrArg (s.val + ·) ((Nat.one_mul _).trans h0)).trans (Nat.add_zero _)
  | ⟨1, _⟩ => exact (Nat.zero_add _).trans (Nat.one_mul _)
  | ⟨2, _⟩ => exact (Nat.zero_add _).trans (Nat.one_mul _)
  | ⟨3, _⟩ => exact (Nat.zero_add _).trans (Nat.one_mul _)

/-- Where the elements of half an input slot sit; -/
theorem inHalf_emb (s : Fin 6) (k : Fin 2) (j : S128x17x128.Idx) :
    ((inHalf s k).view.emb j : S6x256x17x128.Idx) = ix4 s (halfRow k (j 0)) (j 1) (j 2) := slotHalf_emb inM s k j
/-- of half an output slot; -/
theorem outHalf_emb (s : Fin 6) (k : Fin 2) (j : S128x17x128.Idx) :
    ((outHalf s k).view.emb j : S6x256x17x128.Idx) = ix4 s (halfRow k (j 0)) (j 1) (j 2) := slotHalf_emb outM s k j
/-- of half a block of `x`; -/
theorem xHalf_emb (b : Fin 64) (k : Fin 2) (j : S128x17x128.Idx) :
    ((xHalf b k).view.emb j : S16384x17x128.Idx) = ix3 (rowOf b (halfRow k (j 0))) (j 1) (j 2) := rows_emb xM b k j
/-- of half a block of the result. -/
theorem yHalf_emb (b : Fin 64) (k : Fin 2) (j : S128x17x128.Idx) :
    ((yHalf b k).view.emb j : S16384x17x128.Idx) = ix3 (rowOf b (halfRow k (j 0))) (j 1) (j 2) := rows_emb yM b k j

/-- Each row of a block lies in one of its halves. -/
theorem half_cases (r : Fin 256) : ∃ (k : Fin 2) (q : Fin 128), r = halfRow k q := by
  by_cases h : r.val < 128
  · exact ⟨0, ⟨r.val, h⟩, Fin.ext (by simp)⟩
  · exact ⟨1, ⟨r.val - 128, by omega⟩, Fin.ext (by simp; omega)⟩

/-- The elements of half `k` of slot `s`. -/
def halfSet (s : Fin 6) (k : Fin 2) : Finset S6x256x17x128.Idx := Finset.univ.filter fun i => (i 0).val = s.val ∧ (i 1).val / 128 = k.val
/-- The elements of half `k` of block `b` of an array. -/
def rowSet (b : Fin 64) (k : Fin 2) : Finset S16384x17x128.Idx := Finset.univ.filter fun i => (i 0).val / 128 = 2 * b.val + k.val
/-- The elements of slot `s`. -/
def slotSet (s : Fin 6) : Finset S6x256x17x128.Idx := Finset.univ.filter fun i => (i 0).val = s.val

/-- An element is in half `k` of slot `s` when its slot is `s` and its row lies in that half. -/
theorem mem_halfSet {s : Fin 6} {k : Fin 2} {i : S6x256x17x128.Idx} : i ∈ halfSet s k ↔ i 0 = s ∧ (i 1).val / 128 = k.val := by
  simp only [halfSet, Finset.mem_filter, Finset.mem_univ, true_and]
  exact and_congr_left fun _ => Fin.ext_iff.symm
/-- An element is in half `k` of block `b` when its row lies there. -/
theorem mem_rowSet {b : Fin 64} {k : Fin 2} {i : S16384x17x128.Idx} : i ∈ rowSet b k ↔ (i 0).val / 128 = 2 * b.val + k.val := by simp [rowSet]
/-- An element is in slot `s` when its first index is `s`. -/
theorem mem_slotSet {s : Fin 6} {i : S6x256x17x128.Idx} : i ∈ slotSet s ↔ i 0 = s := by
  simp only [slotSet, Finset.mem_filter, Finset.mem_univ, true_and]
  exact Fin.ext_iff.symm

/-- Half `k` of slot `s`, read by its elements' places, is `halfSet s k`. -/
theorem map_half {e : S128x17x128.Idx ↪ S6x256x17x128.Idx} {s : Fin 6} {k : Fin 2} (he : ∀ j, e j = ix4 s (halfRow k (j 0)) (j 1) (j 2)) : Finset.univ.map e = halfSet s k := by
  ext i
  rw [mem_halfSet, Finset.mem_map]
  constructor
  · rintro ⟨j, -, rfl⟩
    rw [he]
    refine ⟨rfl, ?_⟩
    have : (j 0).val < 128 := (j 0).isLt
    show (128 * k.val + (j 0).val) / 128 = k.val
    omega
  · rintro ⟨h0, h1⟩
    obtain ⟨k', q, hq⟩ := half_cases (i 1)
    have hk : k' = k := Fin.ext (by have := congrArg Fin.val hq; simp at this; omega)
    refine ⟨ix3 q (i 2) (i 3), Finset.mem_univ _, ?_⟩
    subst hk h0
    rw [he, eq_ix4 i]
    exact congrArg (fun r => ix4 (i 0) r (i 2) (i 3)) hq.symm

/-- Half `k` of block `b`, read by its elements' places, is `rowSet b k`. -/
theorem map_rows {e : S128x17x128.Idx ↪ S16384x17x128.Idx} {b : Fin 64} {k : Fin 2} (he : ∀ j, e j = ix3 (rowOf b (halfRow k (j 0))) (j 1) (j 2)) : Finset.univ.map e = rowSet b k := by
  ext i
  rw [mem_rowSet, Finset.mem_map]
  constructor
  · rintro ⟨j, -, rfl⟩
    rw [he]
    have : (j 0).val < 128 := (j 0).isLt
    show (256 * b.val + (128 * k.val + (j 0).val)) / 128 = 2 * b.val + k.val
    omega
  · intro h
    refine ⟨ix3 ⟨(i 0).val % 128, Nat.mod_lt _ (by decide)⟩ (i 1) (i 2), Finset.mem_univ _, ?_⟩
    rw [he, eq_ix3 i]
    refine congrArg (fun r => ix3 r (i 1) (i 2)) (Fin.ext ?_)
    show 256 * b.val + (128 * k.val + (i 0).val % 128) = (i 0).val
    omega

/-- The elements of half an input slot; -/
theorem inHalf_set (s : Fin 6) (k : Fin 2) : ((inHalf s k).view.set : Finset S6x256x17x128.Idx) = halfSet s k := map_half (inHalf_emb s k)
/-- of half an output slot; -/
theorem outHalf_set (s : Fin 6) (k : Fin 2) : ((outHalf s k).view.set : Finset S6x256x17x128.Idx) = halfSet s k := map_half (outHalf_emb s k)
/-- of half a block of `x`; -/
theorem xHalf_set (b : Fin 64) (k : Fin 2) : ((xHalf b k).view.set : Finset S16384x17x128.Idx) = rowSet b k := map_rows (xHalf_emb b k)
/-- of half a block of the result. -/
theorem yHalf_set (b : Fin 64) (k : Fin 2) : ((yHalf b k).view.set : Finset S16384x17x128.Idx) = rowSet b k := map_rows (yHalf_emb b k)

/-- Slot `s`, read by its elements' places, is `slotSet s`. -/
theorem map_slot {e : S1x256x17x128.Idx ↪ S6x256x17x128.Idx} {s : Fin 6} (he : ∀ j, e j = ix4 s (j 1) (j 2) (j 3)) : Finset.univ.map e = slotSet s := by
  ext i
  rw [mem_slotSet, Finset.mem_map]
  constructor
  · rintro ⟨j, -, rfl⟩
    rw [he]
  · intro h
    subst h
    exact ⟨ix4 0 (i 1) (i 2) (i 3), Finset.mem_univ _, (he _).trans (eq_ix4 i).symm⟩

/-- The elements of an input slot; -/
theorem inSlot_set (s : Fin 6) : ((inM.access (slotRect s)).set : Finset S6x256x17x128.Idx) = slotSet s := map_slot (slot_emb inM s)
/-- of an output slot. -/
theorem outSlot_set (s : Fin 6) : ((outM.access (slotRect s)).set : Finset S6x256x17x128.Idx) = slotSet s := map_slot (slot_emb outM s)

/-- A slot is its two halves. -/
theorem slotSet_split (s : Fin 6) : slotSet s = halfSet s 0 ∪ halfSet s 1 := by
  ext i
  rw [Finset.mem_union, mem_slotSet, mem_halfSet, mem_halfSet]
  have : (i 1).val < 256 := (i 1).isLt
  show _ ↔ (i 0 = s ∧ (i 1).val / 128 = 0) ∨ (i 0 = s ∧ (i 1).val / 128 = 1)
  constructor
  · intro h
    by_cases h' : (i 1).val < 128
    · exact Or.inl ⟨h, by omega⟩
    · exact Or.inr ⟨h, by omega⟩
  · rintro (h | h) <;> exact h.1
/-- Two different halves of slots share no element. -/
theorem halfSet_disjoint {s s' : Fin 6} {k k' : Fin 2} (h : s ≠ s' ∨ k ≠ k') : Disjoint (halfSet s k) (halfSet s' k') := by
  rw [Finset.disjoint_left]
  intro i h1 h2
  rw [mem_halfSet] at h1 h2
  rcases h with h | h
  · exact h (h1.1.symm.trans h2.1)
  · exact h (Fin.ext (h1.2.symm.trans h2.2))
/-- Two different halves of blocks share no element. -/
theorem rowSet_disjoint {b b' : Fin 64} {k k' : Fin 2} (h : b ≠ b' ∨ k ≠ k') : Disjoint (rowSet b k) (rowSet b' k') := by
  rw [Finset.disjoint_left]
  intro i h1 h2
  rw [mem_rowSet] at h1 h2
  have := k.isLt; have := k'.isLt
  rcases h with h | h
  · exact h (Fin.ext (by omega))
  · exact h (Fin.ext (by omega))

/-! ## What is held of a slot and of an array -/

local notation "𝕄" => MT nD τ sig Unit (Elt F) ℕ (Pipeline.UD sig nD τ) ℕ

/-- Half `k` of block `b` of `x`, at `X`. -/
def xP (c : Dev nD) (X : S16384x17x128.Idx → F .f32) (b : Fin 64) (k : Fin 2) : sProp 𝕄 :=
  iprop((xHalf b k).view.loc (c : Thread nD τ) ↦[(xHalf b k).view.set]{fullShare} X)
/-- Half `k` of block `b` of the result, at `G`. -/
def yP (c : Dev nD) (G : S16384x17x128.Idx → F .f32) (b : Fin 64) (k : Fin 2) : sProp 𝕄 :=
  iprop((yHalf b k).view.loc (c : Thread nD τ) ↦[(yHalf b k).view.set]{fullShare} G)
/-- Half `k` of input slot `s`, at `f`. -/
def iP (c : Dev nD) (f : S6x256x17x128.Idx → F .f32) (s : Fin 6) (k : Fin 2) : sProp 𝕄 :=
  iprop((inHalf s k).view.loc (c : Thread nD τ) ↦[(inHalf s k).view.set]{fullShare} f)
/-- Half `k` of output slot `s`, at `f`. -/
def oP (c : Dev nD) (f : S6x256x17x128.Idx → F .f32) (s : Fin 6) (k : Fin 2) : sProp 𝕄 :=
  iprop((outHalf s k).view.loc (c : Thread nD τ) ↦[(outHalf s k).view.set]{fullShare} f)

variable (c : Dev nD) (X G : S16384x17x128.Idx → F .f32)

/-- What the copy of half `k` of block `b` into input slot `s` delivers. -/
def dIn (s : Fin 6) (b : Fin 64) (k : Fin 2) : sProp 𝕄 := iprop(iP c (spread X b) s k ∗ xP c X b k)
/-- What the copy of half `k` of output slot `s` to block `b` delivers. -/
def dOut (s : Fin 6) (b : Fin 64) (k : Fin 2) : sProp 𝕄 := iprop(yP c G b k ∗ oP c (spread G b) s k)

/-- Elements held may be kept in a copy's promise. -/
theorem heldStorable (l : Loc nD τ sig) (I : Finset (Idx l)) (f : Buf (Elt F) l) :
    BI.Storable (upEmb : UEmb _ 𝕄) (l ↦[I]{fullShare} f : sProp 𝕄) := inferInstance
/-- What a copy in delivers may be kept in its promise, -/
instance dIn_storable (s : Fin 6) (b : Fin 64) (k : Fin 2) : BI.Storable (upEmb : UEmb _ 𝕄) (dIn c X s b k) :=
  have h1 : BI.Storable (upEmb : UEmb _ 𝕄) (iP c (spread X b) s k) := heldStorable ((inHalf s k).view.loc (c : Thread nD τ)) (inHalf s k).view.set (spread X b)
  have h2 : BI.Storable (upEmb : UEmb _ 𝕄) (xP c X b k) := heldStorable ((xHalf b k).view.loc (c : Thread nD τ)) (xHalf b k).view.set X
  inferInstanceAs (BI.Storable (upEmb : UEmb _ 𝕄) iprop(iP c (spread X b) s k ∗ xP c X b k))
/-- and so may what a copy out delivers. -/
instance dOut_storable (s : Fin 6) (b : Fin 64) (k : Fin 2) : BI.Storable (upEmb : UEmb _ 𝕄) (dOut c G s b k) :=
  have h1 : BI.Storable (upEmb : UEmb _ 𝕄) (yP c G b k) := heldStorable ((yHalf b k).view.loc (c : Thread nD τ)) (yHalf b k).view.set G
  have h2 : BI.Storable (upEmb : UEmb _ 𝕄) (oP c (spread G b) s k) := heldStorable ((outHalf s k).view.loc (c : Thread nD τ)) (outHalf s k).view.set (spread G b)
  inferInstanceAs (BI.Storable (upEmb : UEmb _ 𝕄) iprop(yP c G b k ∗ oP c (spread G b) s k))

/-- What one copy into an input slot adds to the slot's semaphore. -/
def nI : ℕ := (inHalf 0 0).view.dmaCredit
/-- What one copy out of an output slot adds to the slot's semaphore. -/
def nO : ℕ := (yHalf 0 0).view.dmaCredit
/-- A copy in adds something to its semaphore, -/
theorem nI_pos : 0 < nI := View.dmaCredit_pos _ (by decide)
/-- and so does a copy out. -/
theorem nO_pos : 0 < nO := View.dmaCredit_pos _ (by decide)

/-- Where the counters of the copies on their way live. -/
abbrev EC : UEmb Counters 𝕄 := countersEmb (U := Pipeline.UD sig nD τ)

/-- Block `b` on its way into input slot `s`: `j` halves started, `u` units waited for. -/
def runI (s : Fin 6) (b : Fin 64) (j u : ℕ) : sProp 𝕄 := Transfers.Batch EC (c : Thread nD τ) (semI s) () nI (dIn c X s b) j u
/-- Block `b` on its way out of output slot `s`: `j` halves started, `u` units waited for. -/
def runO (s : Fin 6) (b : Fin 64) (j u : ℕ) : sProp 𝕄 := Transfers.Batch EC (c : Thread nD τ) (semO s) () nO (dOut c G s b) j u

end Cert.Proof

end
-- ==== Proof.Flights.lean ====
module

public import proofs.«01_k».proof.Proof.Slots

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (c : Dev nD) (X G : S16384x17x128.Idx → F .f32)

/-! ## What a copy leaves -/

/-- A copy of half `k` of block `b` into slot `s` leaves there the half of the block. -/
theorem copied_in (s : Fin 6) (b : Fin 64) (k : Fin 2) (f : S6x256x17x128.Idx → F .f32) :
    ∀ i ∈ (inHalf s k).view.set, (inHalf s k).view.write (Elt F) f ((xHalf b k).view.read (Elt F) X) Finset.univ i = spread X b i := by
  intro i hi
  obtain ⟨j, -, rfl⟩ := Finset.mem_map.mp hi
  refine (View.write_emb_of_mem _ _ (Finset.mem_univ j)).trans ?_
  have h1 : (xHalf b k).view.read (Elt F) X j = X (ix3 (rowOf b (halfRow k (j 0))) (j 1) (j 2)) := congrArg X (xHalf_emb b k j)
  exact h1.trans (congrArg (spread X b) (inHalf_emb s k j)).symm

/-- A copy of half `k` of slot `s`, block `b` being there, to block `b` leaves there the half of the block. -/
theorem copied_out (s : Fin 6) (b : Fin 64) (k : Fin 2) (g : S16384x17x128.Idx → F .f32) :
    ∀ i ∈ (yHalf b k).view.set, (yHalf b k).view.write (Elt F) g ((outHalf s k).view.read (Elt F) (spread G b)) Finset.univ i = G i := by
  intro i hi
  obtain ⟨j, -, rfl⟩ := Finset.mem_map.mp hi
  refine (View.write_emb_of_mem _ _ (Finset.mem_univ j)).trans ?_
  have h1 : (outHalf s k).view.read (Elt F) (spread G b) j = G (ix3 (rowOf b (halfRow k (j 0))) (j 1) (j 2)) := congrArg (spread G b) (outHalf_emb s k j)
  exact h1.trans (congrArg G (yHalf_emb b k j)).symm

/-- Each copy into a slot adds `nI`, -/
theorem amountI (s : Fin 6) (k : Fin 2) : (inHalf s k).view.amount (semI s) = nI := rfl
/-- and each wait there takes `nI`. -/
theorem creditI (s : Fin 6) (k : Fin 2) : (inHalf s k).view.dmaCredit = nI := rfl
/-- Each copy out of a slot adds `nO`, -/
theorem amountO (s : Fin 6) (b : Fin 64) (k : Fin 2) : (yHalf b k).view.amount (semO s) = nO := rfl
/-- and each wait there takes `nO`. -/
theorem creditO (b : Fin 64) (k : Fin 2) : (yHalf b k).view.dmaCredit = nO := rfl

/-! ## One rule for each small program -/

/-- Starting a copy in: the half of `x` and the half slot are given up, and one more half is on its way. -/
theorem wp_startHalf (s : Fin 6) (b : Fin 64) (k : Fin 2) (f : S6x256x17x128.Idx → F .f32) (Q : PUnit → sProp 𝕄) :
    iprop(xP c X b k ∗ iP c f s k ∗ runI c X s b k.val 0)
      ⊢ iprop((runI c X s b (k.val + 1) 0 -∗ Q ⟨⟩) -∗ wp frame (wpE (defs₀ (F := F)) Variants.none (c : Thread nD τ) none) Set.univ (startHalf (F := F) s b k) Q) := by
  have h : iprop(xP c X b k ∗ iP c f s k ∗ runI c X s b k.val 0)
      ⊢ iprop((runI c X s b (k.val + 1) 0 -∗ wp frame (wpE (defs₀ (F := F)) Variants.none (c : Thread nD τ) none) Set.univ (Prog.ret ⟨⟩) Q) -∗ wp frame (wpE (defs₀ (F := F)) Variants.none (c : Thread nD τ) none) Set.univ (startHalf (F := F) s b k) Q) :=
    Transfers.wp_dmaBatch (EC (F := F)) (defs := defs₀ (F := F)) Variants.none (c : Thread nD τ) none (src := xHalf b k) (via := .same) (dst := inHalf s k) (sm := semI s)
    (hsrc := we_x b k) (hdst := we_in s k) (hsem := ⟨Or.inl rfl, trivial⟩) (k := Prog.ret) (Q := Q) (q := fullShare) (fs := X) (Sd := (inHalf s k).view.set) (fd := f) (D := dIn c X s b) (j := k.val) (u := 0)
    () nI (amountI s k) (Finset.Subset.refl _) k.isLt (Nat.zero_le _)
    (by
      rw [pointsTo_congr (g := spread X b) (copied_in X s b k f)]
      exact .rfl)
  iintro H Hk
  iapply h $$ H
  iintro HB
  rw [wp_ret]
  imodintro
  iapply Hk $$ HB

/-- Starting a copy out: the half slot and the half of the result are given up, and one more half is on its way. -/
theorem wp_putHalf (s : Fin 6) (b : Fin 64) (k : Fin 2) (g : S16384x17x128.Idx → F .f32) (Q : PUnit → sProp 𝕄) :
    iprop(oP c (spread G b) s k ∗ yP c g b k ∗ runO c G s b k.val 0)
      ⊢ iprop((runO c G s b (k.val + 1) 0 -∗ Q ⟨⟩) -∗ wp frame (wpE (defs₀ (F := F)) Variants.none (c : Thread nD τ) none) Set.univ (putHalf (F := F) s b k) Q) := by
  have h : iprop(oP c (spread G b) s k ∗ yP c g b k ∗ runO c G s b k.val 0)
      ⊢ iprop((runO c G s b (k.val + 1) 0 -∗ wp frame (wpE (defs₀ (F := F)) Variants.none (c : Thread nD τ) none) Set.univ (Prog.ret ⟨⟩) Q) -∗ wp frame (wpE (defs₀ (F := F)) Variants.none (c : Thread nD τ) none) Set.univ (putHalf (F := F) s b k) Q) :=
    Transfers.wp_dmaBatch (EC (F := F)) (defs := defs₀ (F := F)) Variants.none (c : Thread nD τ) none (src := outHalf s k) (via := .same) (dst := yHalf b k) (sm := semO s)
    (hsrc := we_out s k) (hdst := we_y b k) (hsem := ⟨Or.inl rfl, trivial⟩) (k := Prog.ret) (Q := Q) (q := fullShare) (fs := spread G b) (Sd := (yHalf b k).view.set) (fd := g) (D := dOut c G s b) (j := k.val) (u := 0)
    () nO (amountO s b k) (Finset.Subset.refl _) k.isLt (Nat.zero_le _)
    (by
      rw [pointsTo_congr (g := G) (copied_out G s b k g)]
      exact .rfl)
  iintro H Hk
  iapply h $$ H
  iintro HB
  rw [wp_ret]
  imodintro
  iapply Hk $$ HB

/-- An input slot that nothing is on its way into. -/
def freeI (s : Fin 6) : sProp 𝕄 := iprop((∃ f, iP c f s 0) ∗ (∃ f, iP c f s 1) ∗ semVal ((c : Thread nD τ), semI s) 0)
/-- An output slot that nothing is on its way out of. -/
def freeO (s : Fin 6) : sProp 𝕄 := iprop((∃ f, oP c f s 0) ∗ (∃ f, oP c f s 1) ∗ semVal ((c : Thread nD τ), semO s) 0)
/-- Block `b` of the result, at some contents. -/
def someY (b : Fin 64) : sProp 𝕄 := iprop((∃ g, yP (F := F) c g b 0) ∗ (∃ g, yP (F := F) c g b 1))
/-- Block `b` of `x`. -/
def wholeX (b : Fin 64) : sProp 𝕄 := iprop(xP c X b 0 ∗ xP c X b 1)
/-- Block `b` of the result, written. -/
def wholeY (b : Fin 64) : sProp 𝕄 := iprop(yP c G b 0 ∗ yP c G b 1)
/-- What is owed for the waits done, whatever they were. -/
def owesAny : sProp 𝕄 := iprop(∃ W, owes (c : Thread nD τ) 0 W)

/-- Starting a block in: the block and a free slot are given up, and both halves are on their way. -/
theorem wp_startBlock (s : Fin 6) (b : Fin 64) (Q : PUnit → sProp 𝕄) :
    iprop(wholeX c X b ∗ freeI c s)
      ⊢ iprop((runI c X s b 2 0 -∗ Q ⟨⟩) -∗ wp frame (wpE (defs₀ (F := F)) Variants.none (c : Thread nD τ) none) Set.univ (startBlock (F := F) s b) Q) := by
  unfold wholeX freeI startBlock
  iintro ⟨⟨Hx0, Hx1⟩, ⟨%f0, Hi0⟩, ⟨%f1, Hi1⟩, Hs⟩ Hk
  rw [wp_bind]
  have ha : (semVal ((c : Thread nD τ), semI s) 0 : sProp 𝕄) ⊢ |={Set.univ}=> runI c X s b 0 0 :=
    Transfers.batch_alloc' (EC (F := F)) (c : Thread nD τ) () nI (dIn c X s b)
  iapply fupd_wp
  imod ha $$ Hs with HB
  imodintro
  iapply (wp_startHalf c X s b 0 f0 _) $$ [Hx0 Hi0 HB]
  · isplitl [Hx0]; · iexact Hx0
    isplitl [Hi0]; · iexact Hi0
    iexact HB
  iintro HB
  iapply (wp_startHalf c X s b 1 f1 _) $$ [Hx1 Hi1 HB]
  · isplitl [Hx1]; · iexact Hx1
    isplitl [Hi1]; · iexact Hi1
    iexact HB
  iintro HB
  ihave HB := (show runI c X s b ((1 : Fin 2).val + 1) 0 ⊢ runI c X s b 2 0 from .rfl) $$ HB
  iapply Hk $$ HB

/-- Starting a block out: the filled slot and the block of the result are given up, and both halves are on their way. -/
theorem wp_putBlock (s : Fin 6) (b : Fin 64) (Q : PUnit → sProp 𝕄) :
    iprop(oP c (spread G b) s 0 ∗ oP c (spread G b) s 1 ∗ semVal ((c : Thread nD τ), semO s) 0 ∗ someY c b)
      ⊢ iprop((runO c G s b 2 0 -∗ Q ⟨⟩) -∗ wp frame (wpE (defs₀ (F := F)) Variants.none (c : Thread nD τ) none) Set.univ (putBlock (F := F) s b) Q) := by
  unfold someY putBlock
  iintro ⟨Ho0, Ho1, Hs, ⟨%g0, Hy0⟩, ⟨%g1, Hy1⟩⟩ Hk
  rw [wp_bind]
  have ha : (semVal ((c : Thread nD τ), semO s) 0 : sProp 𝕄) ⊢ |={Set.univ}=> runO c G s b 0 0 :=
    Transfers.batch_alloc' (EC (F := F)) (c : Thread nD τ) () nO (dOut c G s b)
  iapply fupd_wp
  imod ha $$ Hs with HB
  imodintro
  iapply (wp_putHalf c G s b 0 g0 _) $$ [Ho0 Hy0 HB]
  · isplitl [Ho0]; · iexact Ho0
    isplitl [Hy0]; · iexact Hy0
    iexact HB
  iintro HB
  iapply (wp_putHalf c G s b 1 g1 _) $$ [Ho1 Hy1 HB]
  · isplitl [Ho1]; · iexact Ho1
    isplitl [Hy1]; · iexact Hy1
    iexact HB
  iintro HB
  ihave HB := (show runO c G s b ((1 : Fin 2).val + 1) 0 ⊢ runO c G s b 2 0 from .rfl) $$ HB
  iapply Hk $$ HB

/-- After both waits on an input slot it holds the block, and the block of `x` is home again. -/
theorem wp_waitIn (s : Fin 6) (b : Fin 64) (Q : PUnit → sProp 𝕄) :
    iprop(runI c X s b 2 0 ∗ owesAny c)
      ⊢ iprop((iprop(iP c (spread X b) s 0 ∗ iP c (spread X b) s 1 ∗ semVal ((c : Thread nD τ), semI s) 0 ∗ wholeX c X b ∗ owesAny c) -∗ Q ⟨⟩)
        -∗ wp frame (wpE (defs₀ (F := F)) Variants.none (c : Thread nD τ) none) Set.univ (waitIn (F := F) s) Q) := by
  have h0 (W : Waits sig Unit) : iprop(runI c X s b 2 0 ∗ owes (c : Thread nD τ) 0 W)
      ⊢ iprop((iprop(runI c X s b 2 nI ∗ owes (c : Thread nD τ) 0 (insert (semI s, ()) W)) -∗ wp frame (wpE (defs₀ (F := F)) Variants.none (c : Thread nD τ) none) Set.univ (waitInHalf (F := F) s 1) Q)
        -∗ wp frame (wpE (defs₀ (F := F)) Variants.none (c : Thread nD τ) none) Set.univ (waitIn (F := F) s) Q) := by
    have h := Transfers.wp_waitBatch (EC (F := F)) (defs := defs₀ (F := F)) Variants.none (c : Thread nD τ) none (sem := (cellI s).sem) (srcw := xHalf 0 0) (dstw := inHalf s 0) (hsrc := we_x 0 0) (hdst := we_in s 0)
      (k := fun _ => waitInHalf (F := F) s 1) (Q := Q) () (creditI s 0) (D := dIn c X s b) (u := 0) (by have := nI_pos; omega) (W := W)
    rw [Nat.zero_add] at h
    exact h
  have h1 (W : Waits sig Unit) : iprop(runI c X s b 2 nI ∗ owes (c : Thread nD τ) 0 W)
      ⊢ iprop((iprop(bigSep Finset.univ (dIn c X s b) ∗ semVal ((c : Thread nD τ), semI s) 0 ∗ owes (c : Thread nD τ) 0 (insert (semI s, ()) W)) -∗ wp frame (wpE (defs₀ (F := F)) Variants.none (c : Thread nD τ) none) Set.univ (Prog.ret ⟨⟩) Q)
        -∗ wp frame (wpE (defs₀ (F := F)) Variants.none (c : Thread nD τ) none) Set.univ (waitInHalf (F := F) s 1) Q) :=
    Transfers.wp_waitBatchLast (EC (F := F)) (defs := defs₀ (F := F)) Variants.none (c : Thread nD τ) none (sem := (cellI s).sem) (srcw := xHalf 0 1) (dstw := inHalf s 1) (hsrc := we_x 0 1) (hdst := we_in s 1)
      (k := Prog.ret) (Q := Q) () (creditI s 1) nI_pos (D := dIn c X s b) (u := nI) (by omega) (W := W)
  unfold owesAny
  iintro ⟨HB, ⟨%W, HO⟩⟩ Hk
  iapply (h0 W) $$ [HB HO]
  · isplitl [HB]; · iexact HB
    iexact HO
  iintro ⟨HB, HO⟩
  iapply (h1 _) $$ [HB HO]
  · isplitl [HB]; · iexact HB
    iexact HO
  iintro ⟨HD, Hs, HO⟩
  ihave HD := (Entails.of_eq (Ring.bigSep_fin2 (dIn c X s b))) $$ HD
  rw [wp_ret]
  imodintro
  unfold dIn wholeX
  icases HD with ⟨⟨Hi0, Hx0⟩, Hi1, Hx1⟩
  iapply Hk
  isplitl [Hi0]; · iexact Hi0
  isplitl [Hi1]; · iexact Hi1
  isplitl [Hs]; · iexact Hs
  isplitl [Hx0 Hx1]
  · isplitl [Hx0]; · iexact Hx0
    iexact Hx1
  iexists _
  iexact HO

/-- After both waits on an output slot it is free, and the block of the result is written. -/
theorem wp_waitOut (s : Fin 6) (b : Fin 64) (Q : PUnit → sProp 𝕄) :
    iprop(runO c G s b 2 0 ∗ owesAny c)
      ⊢ iprop((iprop(freeO c s ∗ wholeY c G b ∗ owesAny c) -∗ Q ⟨⟩)
        -∗ wp frame (wpE (defs₀ (F := F)) Variants.none (c : Thread nD τ) none) Set.univ (waitOut (F := F) s) Q) := by
  have h0 (W : Waits sig Unit) : iprop(runO c G s b 2 0 ∗ owes (c : Thread nD τ) 0 W)
      ⊢ iprop((iprop(runO c G s b 2 nO ∗ owes (c : Thread nD τ) 0 (insert (semO s, ()) W)) -∗ wp frame (wpE (defs₀ (F := F)) Variants.none (c : Thread nD τ) none) Set.univ (waitOutHalf (F := F) s 1) Q)
        -∗ wp frame (wpE (defs₀ (F := F)) Variants.none (c : Thread nD τ) none) Set.univ (waitOut (F := F) s) Q) := by
    have h := Transfers.wp_waitBatch (EC (F := F)) (defs := defs₀ (F := F)) Variants.none (c : Thread nD τ) none (sem := (cellO s).sem) (srcw := outHalf s 0) (dstw := yHalf 0 0) (hsrc := we_out s 0) (hdst := we_y 0 0)
      (k := fun _ => waitOutHalf (F := F) s 1) (Q := Q) () (creditO 0 0) (D := dOut c G s b) (u := 0) (by have := nO_pos; omega) (W := W)
    rw [Nat.zero_add] at h
    exact h
  have h1 (W : Waits sig Unit) : iprop(runO c G s b 2 nO ∗ owes (c : Thread nD τ) 0 W)
      ⊢ iprop((iprop(bigSep Finset.univ (dOut c G s b) ∗ semVal ((c : Thread nD τ), semO s) 0 ∗ owes (c : Thread nD τ) 0 (insert (semO s, ()) W)) -∗ wp frame (wpE (defs₀ (F := F)) Variants.none (c : Thread nD τ) none) Set.univ (Prog.ret ⟨⟩) Q)
        -∗ wp frame (wpE (defs₀ (F := F)) Variants.none (c : Thread nD τ) none) Set.univ (waitOutHalf (F := F) s 1) Q) :=
    Transfers.wp_waitBatchLast (EC (F := F)) (defs := defs₀ (F := F)) Variants.none (c : Thread nD τ) none (sem := (cellO s).sem) (srcw := outHalf s 1) (dstw := yHalf 0 1) (hsrc := we_out s 1) (hdst := we_y 0 1)
      (k := Prog.ret) (Q := Q) () (creditO 0 1) nO_pos (D := dOut c G s b) (u := nO) (by omega) (W := W)
  unfold owesAny
  iintro ⟨HB, ⟨%W, HO⟩⟩ Hk
  iapply (h0 W) $$ [HB HO]
  · isplitl [HB]; · iexact HB
    iexact HO
  iintro ⟨HB, HO⟩
  iapply (h1 _) $$ [HB HO]
  · isplitl [HB]; · iexact HB
    iexact HO
  iintro ⟨HD, Hs, HO⟩
  ihave HD := (Entails.of_eq (Ring.bigSep_fin2 (dOut c G s b))) $$ HD
  rw [wp_ret]
  imodintro
  unfold dOut wholeY freeO
  icases HD with ⟨⟨Hy0, Ho0⟩, Hy1, Ho1⟩
  iapply Hk
  isplitl [Ho0 Ho1 Hs]
  · isplitl [Ho0]; · iexists _; iexact Ho0
    isplitl [Ho1]; · iexists _; iexact Ho1
    iexact Hs
  isplitl [Hy0 Hy1]
  · isplitl [Hy0]; · iexact Hy0
    iexact Hy1
  iexists _
  iexact HO

end Cert.Proof
end
-- ==== Proof.Slot.lean ====
module

public import proofs.«01_k».proof.Proof.Flights

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (c : Dev nD) (X G : S16384x17x128.Idx → F .f32)

/-- Block `b` of an array, as a slot's load reads it. -/
def blockVec (A : S16384x17x128.Idx → F .f32) (b : Fin 64) : Vec F S1x256x17x128 .f32 := fun j => A (ix3 (rowOf b (j 1)) (j 2) (j 3))

/-- The elements `S` of the input slots, at `f`. -/
def inPt (f : S6x256x17x128.Idx → F .f32) (S : Finset S6x256x17x128.Idx) : sProp 𝕄 :=
  iprop(((inM.access (slotRect 0)).loc (c : Thread nD τ)) ↦[S]{fullShare} f)
/-- The elements `S` of the output slots, at `f`. -/
def outPt (f : S6x256x17x128.Idx → F .f32) (S : Finset S6x256x17x128.Idx) : sProp 𝕄 :=
  iprop(((outM.access (slotRect 0)).loc (c : Thread nD τ)) ↦[S]{fullShare} f)

/-- Half an input slot is held as those elements of the input slots; -/
theorem iP_eq (f : S6x256x17x128.Idx → F .f32) (s : Fin 6) (k : Fin 2) : iP c f s k = inPt c f (halfSet s k) :=
  congrArg (inPt c f) (inHalf_set s k)
/-- half an output slot likewise. -/
theorem oP_eq (f : S6x256x17x128.Idx → F .f32) (s : Fin 6) (k : Fin 2) : oP c f s k = outPt c f (halfSet s k) :=
  congrArg (outPt c f) (outHalf_set s k)

/-- Two halves of an input slot at one valuation are the slot. -/
theorem inPt_slot (f : S6x256x17x128.Idx → F .f32) (s : Fin 6) : inPt c f (slotSet s) ⊣⊢ iprop(iP c f s 0 ∗ iP c f s 1) := by
  rw [iP_eq, iP_eq, slotSet_split]
  exact pointsTo_union (halfSet_disjoint (Or.inr (by decide)))
/-- Two halves of an output slot at one valuation are the slot. -/
theorem outPt_slot (f : S6x256x17x128.Idx → F .f32) (s : Fin 6) : outPt c f (slotSet s) ⊣⊢ iprop(oP c f s 0 ∗ oP c f s 1) := by
  rw [oP_eq, oP_eq, slotSet_split]
  exact pointsTo_union (halfSet_disjoint (Or.inr (by decide)))
/-- Two halves of an output slot, each at its own valuation, are the slot at some valuation. -/
theorem outPt_join (f g : S6x256x17x128.Idx → F .f32) (s : Fin 6) : iprop(oP c f s 0 ∗ oP c g s 1) ⊢ iprop(∃ h, outPt c h (slotSet s)) := by
  rw [oP_eq, oP_eq, slotSet_split]
  exact (pointsTo_join (halfSet_disjoint (Or.inr (by decide)))).trans (BIClass.exists_intro (Φ := fun h => outPt c h (halfSet s 0 ∪ halfSet s 1)) _)

/-- A load of an input slot that block `b` is in gives block `b`. -/
theorem wp_loadIn (s : Fin 6) (b : Fin 64) (Q : Vec F S1x256x17x128 .f32 → sProp 𝕄) :
    iprop(iP c (spread X b) s 0 ∗ iP c (spread X b) s 1)
      ⊢ iprop((iprop(iP c (spread X b) s 0 ∗ iP c (spread X b) s 1) -∗ Q (blockVec X b))
        -∗ wp frame (wpE (defs₀ (F := F)) Variants.none (c : Thread nD τ) none) Set.univ (loadIn (F := F) s) Q) := by
  have h : inPt c (spread X b) (slotSet s)
      ⊢ iprop((inPt c (spread X b) (slotSet s) -∗ wp frame (wpE (defs₀ (F := F)) Variants.none (c : Thread nD τ) none) Set.univ (Prog.ret ((inM.access (slotRect s)).read (Elt F) (spread X b))) Q)
        -∗ wp frame (wpE (defs₀ (F := F)) Variants.none (c : Thread nD τ) none) Set.univ (loadIn (F := F) s) Q) :=
    wp_load_rect (defs := defs₀ (F := F)) Variants.none (c : Thread nD τ) none Set.univ (m := inM) (r := slotRect s) (k := Prog.ret) (S := slotSet s) (q := fullShare) (f := spread X b) (Finset.subset_of_eq (inSlot_set s))
  have e : (inM.access (slotRect s)).read (Elt F) (spread X b) = blockVec X b := funext fun j => congrArg (spread X b) (slot_emb inM s j)
  rw [e] at h
  iintro H Hk
  ihave H := (inPt_slot c (spread X b) s).2 $$ H
  iapply h $$ H
  iintro H
  ihave H := (inPt_slot c (spread X b) s).1 $$ H
  rw [wp_ret]
  imodintro
  iapply Hk $$ H

/-- A load of an output slot changes nothing, whatever it gives. -/
theorem wp_loadOut (s : Fin 6) (f : S6x256x17x128.Idx → F .f32) (Q : Vec F S1x256x17x128 .f32 → sProp 𝕄) :
    outPt c f (slotSet s)
      ⊢ iprop((∀ v, outPt c f (slotSet s) -∗ Q v)
        -∗ wp frame (wpE (defs₀ (F := F)) Variants.none (c : Thread nD τ) none) Set.univ (loadOut (F := F) s) Q) := by
  have h : outPt c f (slotSet s)
      ⊢ iprop((outPt c f (slotSet s) -∗ wp frame (wpE (defs₀ (F := F)) Variants.none (c : Thread nD τ) none) Set.univ (Prog.ret ((outM.access (slotRect s)).read (Elt F) f)) Q)
        -∗ wp frame (wpE (defs₀ (F := F)) Variants.none (c : Thread nD τ) none) Set.univ (loadOut (F := F) s) Q) :=
    wp_load_rect (defs := defs₀ (F := F)) Variants.none (c : Thread nD τ) none Set.univ (m := outM) (r := slotRect s) (k := Prog.ret) (S := slotSet s) (q := fullShare) (f := f) (Finset.subset_of_eq (outSlot_set s))
  iintro H Hk
  iapply h $$ H
  iintro H
  rw [wp_ret]
  imodintro
  iapply Hk $$ H

/-- A store of block `b` into an output slot leaves the block in both halves. -/
theorem wp_storeOut (s : Fin 6) (b : Fin 64) (f : S6x256x17x128.Idx → F .f32) (Q : PUnit → sProp 𝕄) :
    outPt c f (slotSet s)
      ⊢ iprop((iprop(oP c (spread G b) s 0 ∗ oP c (spread G b) s 1) -∗ Q ⟨⟩)
        -∗ wp frame (wpE (defs₀ (F := F)) Variants.none (c : Thread nD τ) none) Set.univ (storeOut (F := F) s (blockVec G b)) Q) := by
  have h : outPt c f (slotSet s)
      ⊢ iprop((outPt c ((outM.access (slotRect s)).write (Elt F) f (blockVec G b) Finset.univ) (slotSet s) -∗ wp frame (wpE (defs₀ (F := F)) Variants.none (c : Thread nD τ) none) Set.univ (Prog.ret ⟨⟩) Q)
        -∗ wp frame (wpE (defs₀ (F := F)) Variants.none (c : Thread nD τ) none) Set.univ (storeOut (F := F) s (blockVec G b)) Q) :=
    wp_store (defs := defs₀ (F := F)) Variants.none (c : Thread nD τ) none Set.univ (m := outM) (r := slotRect s) (w := blockVec G b) (Mk := Finset.univ) (k := Prog.ret) (S := slotSet s) (f := f) (Finset.subset_of_eq (outSlot_set s))
  have e : outPt c ((outM.access (slotRect s)).write (Elt F) f (blockVec G b) Finset.univ) (slotSet s) = outPt c (spread G b) (slotSet s) := by
    refine pointsTo_congr fun i hi => ?_
    obtain ⟨j, -, rfl⟩ := Finset.mem_map.mp ((Finset.ext_iff.mp (outSlot_set s) i).mpr hi)
    refine (View.write_emb_of_mem _ _ (Finset.mem_univ j)).trans ?_
    exact (congrArg (spread G b) (slot_emb outM s j)).symm
  rw [e] at h
  iintro H Hk
  iapply h $$ H
  iintro H
  ihave H := (outPt_slot c (spread G b) s).1 $$ H
  rw [wp_ret]
  imodintro
  iapply Hk $$ H

end Cert.Proof
end
-- ==== Proof.Ring.lean ====
module

public import proofs.«01_k».proof.Proof.Slot

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (c : Dev nD) (X G : S16384x17x128.Idx → F .f32)

/-! ## One member of a family changes -/

/-- Two families that agree but at `a`: the member at `a` comes out, and the other one goes in. -/
theorem bigSep_swap {n : ℕ} {Φ Ψ : Fin n → sProp 𝕄} (a : Fin n) (h : ∀ b, b ≠ a → Φ b = Ψ b) :
    bigSep Finset.univ Φ ⊢ iprop(Φ a ∗ (Ψ a -∗ bigSep Finset.univ Ψ)) := by
  have e1 : bigSep Finset.univ Φ = iprop(Φ a ∗ bigSep (Finset.univ.erase a) Φ) := by
    conv_lhs => rw [← Finset.insert_erase (Finset.mem_univ a)]
    exact bigSep_insert (Finset.notMem_erase a _)
  have e2 : bigSep Finset.univ Ψ = iprop(Ψ a ∗ bigSep (Finset.univ.erase a) Ψ) := by
    conv_lhs => rw [← Finset.insert_erase (Finset.mem_univ a)]
    exact bigSep_insert (Finset.notMem_erase a _)
  have e3 : bigSep (Finset.univ.erase a) Φ = bigSep (Finset.univ.erase a) Ψ :=
    bigSep_congr fun b hb => h b (Finset.ne_of_mem_erase hb)
  rw [e1, e2, e3]
  iintro ⟨HA, HR⟩
  isplitl [HA]; · iexact HA
  iintro HB
  isplitl [HB]; · iexact HB
  iexact HR

/-- The least block from `k` on whose slot is `s`. -/
def slotBlk (k : ℕ) (s : Fin 6) : ℕ := k + (s.val + 6 - k % 6) % 6

/-- Of six blocks in a row each is the one of its own slot; -/
theorem slotBlk_self {k j : ℕ} (h1 : k ≤ j) (h2 : j < k + 6) : slotBlk k (sl j) = j := by
  show k + (j % 6 + 6 - k % 6) % 6 = j
  omega
/-- no other slot's block is it; -/
theorem slotBlk_ne {k j : ℕ} {s : Fin 6} (h1 : k ≤ j) (h : s ≠ sl j) : slotBlk k s ≠ j := by
  intro e
  refine h (Fin.ext ?_)
  show s.val = j % 6
  have := s.isLt
  unfold slotBlk at e
  omega
/-- it stays when the row moves on by one, but for the slot passed, -/
theorem slotBlk_succ {k : ℕ} {s : Fin 6} (h : s ≠ sl k) : slotBlk (k + 1) s = slotBlk k s := by
  have h' : s.val ≠ k % 6 := fun e => h (Fin.ext e)
  have := s.isLt
  unfold slotBlk
  omega
/-- whose block is then six further; -/
theorem slotBlk_wrap (k : ℕ) : slotBlk (k + 1) (sl k) = k + 6 := by
  show k + 1 + (k % 6 + 6 - (k + 1) % 6) % 6 = k + 6
  omega
/-- and it never lies before the row. -/
theorem le_slotBlk (k : ℕ) (s : Fin 6) : k ≤ slotBlk k s := Nat.le_add_right _ _

/-! ## The input side: blocks `k` to `j - 1` on their way in -/

/-- An input slot: its block on the way in if that lies below `j`, else free. -/
def inSt (k j : ℕ) (s : Fin 6) : sProp 𝕄 := if slotBlk k s < j then runI c X s (bk (slotBlk k s)) 2 0 else freeI c s
/-- A block of `x`: away if it lies from `k` to `j - 1`, else home. -/
def xSt (k j : ℕ) (b : Fin 64) : sProp 𝕄 := if k ≤ b.val ∧ b.val < j then iprop(emp) else wholeX c X b
/-- Blocks `k` to `j - 1` of `x` are on their way into their slots; the other slots are free and the other blocks home. -/
def InFly (k j : ℕ) : sProp 𝕄 := iprop(bigSep Finset.univ (inSt c X k j) ∗ bigSep Finset.univ (xSt c X k j))

/-- A block number below 64 is itself. -/
theorem bk_val {n : ℕ} (h : n < 64) : (bk n).val = n := Nat.mod_eq_of_lt h

/-- Starting block `j` adds it to the blocks on their way in. -/
theorem wp_startNext {k j : ℕ} (h1 : k ≤ j) (h2 : j < k + 6) (h3 : j < 64) (Q : PUnit → sProp 𝕄) :
    InFly c X k j ⊢ iprop((InFly c X k (j + 1) -∗ Q ⟨⟩)
      -∗ wp frame (wpE (defs₀ (F := F)) Variants.none (c : Thread nD τ) none) Set.univ (startBlock (F := F) (sl j) (bk j)) Q) := by
  have hs : ∀ s, s ≠ sl j → inSt c X k j s = inSt c X k (j + 1) s := fun s hs => by
    have := slotBlk_ne (k := k) h1 hs
    exact if_congr (by omega) rfl rfl
  have hb : ∀ b, b ≠ bk j → xSt c X k j b = xSt c X k (j + 1) b := fun b hb => by
    have : b.val ≠ j := fun e => hb (Fin.ext (e.trans (bk_val h3).symm))
    exact if_congr (by omega) rfl rfl
  have e1 : inSt c X k j (sl j) = freeI c (sl j) := if_neg (by rw [slotBlk_self h1 h2]; omega)
  have e2 : inSt c X k (j + 1) (sl j) = runI c X (sl j) (bk j) 2 0 := by
    unfold inSt; rw [slotBlk_self h1 h2]; exact if_pos (by omega)
  have e3 : xSt c X k j (bk j) = wholeX c X (bk j) := if_neg (by rw [bk_val h3]; omega)
  have e4 : xSt c X k (j + 1) (bk j) = iprop(emp) := if_pos (by rw [bk_val h3]; omega)
  have hS := bigSep_swap (sl j) hs
  have hB := bigSep_swap (bk j) hb
  rw [e1, e2] at hS
  rw [e3, e4] at hB
  unfold InFly
  iintro ⟨HI, HX⟩ Hk
  ihave HI := hS $$ HI
  ihave HX := hB $$ HX
  icases HI with ⟨Hf, HI⟩
  icases HX with ⟨Hx, HX⟩
  iapply (wp_startBlock c X (sl j) (bk j) Q) $$ [Hf Hx]
  · isplitl [Hx]; · iexact Hx
    iexact Hf
  iintro HR
  iapply Hk
  isplitl [HI HR]
  · iapply HI $$ HR
  · iapply HX
    iempintro

/-- Waiting for block `k` and loading it takes it off the blocks on their way in, and gives the block. -/
theorem wp_takeNext {k j : ℕ} (h1 : k < j) (h2 : j ≤ k + 6) (h3 : k < 64) (Q : Vec F S1x256x17x128 .f32 → sProp 𝕄) :
    iprop(InFly c X k j ∗ owesAny c) ⊢ iprop((iprop(InFly c X (k + 1) j ∗ owesAny c) -∗ Q (blockVec X (bk k)))
      -∗ wp frame (wpE (defs₀ (F := F)) Variants.none (c : Thread nD τ) none) Set.univ (waitIn (F := F) (sl k))
          (fun _ => wp frame (wpE (defs₀ (F := F)) Variants.none (c : Thread nD τ) none) Set.univ (loadIn (F := F) (sl k)) Q)) := by
  have hs : ∀ s, s ≠ sl k → inSt c X k j s = inSt c X (k + 1) j s := fun s hs => by
    unfold inSt; rw [slotBlk_succ hs]
  have hb : ∀ b, b ≠ bk k → xSt c X k j b = xSt c X (k + 1) j b := fun b hb => by
    have : b.val ≠ k := fun e => hb (Fin.ext (e.trans (bk_val h3).symm))
    exact if_congr (by omega) rfl rfl
  have e1 : inSt c X k j (sl k) = runI c X (sl k) (bk k) 2 0 := by
    unfold inSt; rw [slotBlk_self (Nat.le_refl k) (by omega)]; exact if_pos (by omega)
  have e2 : inSt c X (k + 1) j (sl k) = freeI c (sl k) := if_neg (by rw [slotBlk_wrap]; omega)
  have e3 : xSt c X k j (bk k) = iprop(emp) := if_pos (by rw [bk_val h3]; omega)
  have e4 : xSt c X (k + 1) j (bk k) = wholeX c X (bk k) := if_neg (by rw [bk_val h3]; omega)
  have hS := bigSep_swap (sl k) hs
  have hB := bigSep_swap (bk k) hb
  rw [e1, e2] at hS
  rw [e3, e4] at hB
  unfold InFly
  iintro ⟨⟨HI, HX⟩, HO⟩ Hk
  ihave HI := hS $$ HI
  ihave HX := hB $$ HX
  icases HI with ⟨Hf, HI⟩
  icases HX with ⟨-, HX⟩
  iapply (wp_waitIn c X (sl k) (bk k) _) $$ [Hf HO]
  · isplitl [Hf]; · iexact Hf
    iexact HO
  iintro ⟨Hi0, Hi1, Hs, Hx, HO⟩
  iapply (wp_loadIn c X (sl k) (bk k) Q) $$ [Hi0 Hi1]
  · isplitl [Hi0]; · iexact Hi0
    iexact Hi1
  iintro ⟨Hi0, Hi1⟩
  iapply Hk
  isplitl [HI HX Hi0 Hi1 Hs Hx]
  · isplitl [HI Hi0 Hi1 Hs]
    · iapply HI
      unfold freeI
      isplitl [Hi0]; · iexists _; iexact Hi0
      isplitl [Hi1]; · iexists _; iexact Hi1
      iexact Hs
    · iapply HX $$ Hx
  · iexact HO

/-! ## The output side: blocks `u` to `k - 1` on their way out -/

/-- An output slot: its block on the way out if that lies below `k`, else free. -/
def outSt (u k : ℕ) (s : Fin 6) : sProp 𝕄 := if slotBlk u s < k then runO c G s (bk (slotBlk u s)) 2 0 else freeO c s
/-- A block of the result: written below `u`, away from `u` to `k - 1`, else at some contents. -/
def ySt (u k : ℕ) (b : Fin 64) : sProp 𝕄 := if b.val < u then wholeY c G b else if b.val < k then iprop(emp) else someY c b
/-- Blocks below `u` of the result are written, blocks `u` to `k - 1` are on their way out of their slots; the other slots
are free, and the other blocks at some contents. -/
def OutFly (u k : ℕ) : sProp 𝕄 := iprop(bigSep Finset.univ (outSt c G u k) ∗ bigSep Finset.univ (ySt c G u k))

/-- Waiting for block `u` takes it off the blocks on their way out: it is written. -/
theorem wp_drainNext {u k : ℕ} (h1 : u < k) (h2 : k ≤ u + 6) (h3 : u < 64) (Q : PUnit → sProp 𝕄) :
    iprop(OutFly c G u k ∗ owesAny c) ⊢ iprop((iprop(OutFly c G (u + 1) k ∗ owesAny c) -∗ Q ⟨⟩)
      -∗ wp frame (wpE (defs₀ (F := F)) Variants.none (c : Thread nD τ) none) Set.univ (waitOut (F := F) (sl u)) Q) := by
  have hs : ∀ s, s ≠ sl u → outSt c G u k s = outSt c G (u + 1) k s := fun s hs => by
    unfold outSt; rw [slotBlk_succ hs]
  have hb : ∀ b, b ≠ bk u → ySt c G u k b = ySt c G (u + 1) k b := fun b hb => by
    have : b.val ≠ u := fun e => hb (Fin.ext (e.trans (bk_val h3).symm))
    exact if_congr (by omega) rfl rfl
  have e1 : outSt c G u k (sl u) = runO c G (sl u) (bk u) 2 0 := by
    unfold outSt; rw [slotBlk_self (Nat.le_refl u) (by omega)]; exact if_pos (by omega)
  have e2 : outSt c G (u + 1) k (sl u) = freeO c (sl u) := if_neg (by rw [slotBlk_wrap]; omega)
  have e3 : ySt c G u k (bk u) = iprop(emp) := by
    unfold ySt; rw [bk_val h3, if_neg (by omega), if_pos h1]
  have e4 : ySt c G (u + 1) k (bk u) = wholeY c G (bk u) := if_pos (by rw [bk_val h3]; omega)
  have hS := bigSep_swap (sl u) hs
  have hB := bigSep_swap (bk u) hb
  rw [e1, e2] at hS
  rw [e3, e4] at hB
  unfold OutFly
  iintro ⟨⟨HI, HX⟩, HO⟩ Hk
  ihave HI := hS $$ HI
  ihave HX := hB $$ HX
  icases HI with ⟨Hf, HI⟩
  icases HX with ⟨-, HX⟩
  iapply (wp_waitOut c G (sl u) (bk u) _) $$ [Hf HO]
  · isplitl [Hf]; · iexact Hf
    iexact HO
  iintro ⟨Hf, Hy, HO⟩
  iapply Hk
  isplitl [HI HX Hf Hy]
  · isplitl [HI Hf]
    · iapply HI $$ Hf
    · iapply HX $$ Hy
  · iexact HO

/-- Storing block `k` and starting it adds it to the blocks on their way out. -/
theorem wp_putNext {u k : ℕ} (h1 : u ≤ k) (h2 : k < u + 6) (h3 : k < 64) (v : Vec F S1x256x17x128 .f32) (hv : v = blockVec G (bk k)) (Q : PUnit → sProp 𝕄) :
    OutFly c G u k ⊢ iprop((OutFly c G u (k + 1) -∗ Q ⟨⟩)
      -∗ wp frame (wpE (defs₀ (F := F)) Variants.none (c : Thread nD τ) none) Set.univ (loadOut (F := F) (sl k))
          (fun _ => wp frame (wpE (defs₀ (F := F)) Variants.none (c : Thread nD τ) none) Set.univ (storeOut (F := F) (sl k) v)
            (fun _ => wp frame (wpE (defs₀ (F := F)) Variants.none (c : Thread nD τ) none) Set.univ (putBlock (F := F) (sl k) (bk k)) Q))) := by
  subst hv
  have hs : ∀ s, s ≠ sl k → outSt c G u k s = outSt c G u (k + 1) s := fun s hs => by
    have := slotBlk_ne (k := u) h1 hs
    exact if_congr (by omega) rfl rfl
  have hb : ∀ b, b ≠ bk k → ySt c G u k b = ySt c G u (k + 1) b := fun b hb => by
    have : b.val ≠ k := fun e => hb (Fin.ext (e.trans (bk_val h3).symm))
    exact if_congr Iff.rfl rfl (if_congr (by omega) rfl rfl)
  have e1 : outSt c G u k (sl k) = freeO c (sl k) := if_neg (by rw [slotBlk_self h1 h2]; omega)
  have e2 : outSt c G u (k + 1) (sl k) = runO c G (sl k) (bk k) 2 0 := by
    unfold outSt; rw [slotBlk_self h1 h2]; exact if_pos (by omega)
  have e3 : ySt c G u k (bk k) = someY c (bk k) := by
    unfold ySt; rw [bk_val h3, if_neg (by omega), if_neg (by omega)]
  have e4 : ySt c G u (k + 1) (bk k) = iprop(emp) := by
    unfold ySt; rw [bk_val h3, if_neg (by omega), if_pos (by omega)]
  have hS := bigSep_swap (sl k) hs
  have hB := bigSep_swap (bk k) hb
  rw [e1, e2] at hS
  rw [e3, e4] at hB
  unfold OutFly
  iintro ⟨HI, HX⟩ Hk
  ihave HI := hS $$ HI
  ihave HX := hB $$ HX
  icases HI with ⟨Hf, HI⟩
  icases HX with ⟨Hx, HX⟩
  unfold freeO
  icases Hf with ⟨⟨%f0, Ho0⟩, ⟨%f1, Ho1⟩, Hs⟩
  ihave Ho := (outPt_join c f0 f1 (sl k)) $$ [Ho0 Ho1]
  · isplitl [Ho0]; · iexact Ho0
    iexact Ho1
  icases Ho with ⟨%f, Ho⟩
  iapply (wp_loadOut c (sl k) f _) $$ Ho
  iintro %v Ho
  iapply (wp_storeOut c G (sl k) (bk k) f _) $$ Ho
  iintro ⟨Ho0, Ho1⟩
  iapply (wp_putBlock c G (sl k) (bk k) Q) $$ [Ho0 Ho1 Hs Hx]
  · isplitl [Ho0]; · iexact Ho0
    isplitl [Ho1]; · iexact Ho1
    isplitl [Hs]; · iexact Hs
    iexact Hx
  iintro HR
  iapply Hk
  isplitl [HI HR]
  · iapply HI $$ HR
  · iapply HX
    iempintro

end Cert.Proof
end
-- ==== Proof.Step.lean ====
module

public import proofs.«01_k».proof.Proof.Ring

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (c : Dev nD) (X G : S16384x17x128.Idx → F .f32)

/-! ## The tile's two other operands -/

variable (arg2 : Memref sig .tc .vmem S384x128 .f32) (harg2 : arg2.IsWhole) (arg3 : Memref sig .tc .vmem S1x128 .f32) (harg3 : arg3.IsWhole)

/-- The load of the bias gives the bias. -/
theorem wp_loadBias (bias : Vec F S1x128 .f32) (Q : Vec F S1x128 .f32 → sProp 𝕄) :
    owns (c : Thread nD τ) arg3 fullShare bias
      ⊢ iprop((owns (c : Thread nD τ) arg3 fullShare bias -∗ Q bias)
        -∗ wp frame (wpE (defs₀ (F := F)) Variants.none (c : Thread nD τ) none) Set.univ (loadBias (F := F) arg3) Q) := by
  have e (f : Buf (Elt F) (arg3.view.loc (c : Thread nD τ))) : (arg3.access (Rect.unit (s := S1x128) ![0, 0] S1x128.size inb_S1x128_S1x128_0_0)).read (Elt F) f = arg3.view.read (Elt F) f := by
    funext j
    refine congrArg (arg3.view.read (Elt F) f) ?_
    funext a
    apply Fin.ext
    rw [Rect.emb_apply]
    match a with
    | ⟨0, _⟩ => exact (Nat.zero_add _).trans (Nat.one_mul _)
    | ⟨1, _⟩ => exact (Nat.zero_add _).trans (Nat.one_mul _)
  have h (f : Buf (Elt F) (arg3.view.loc (c : Thread nD τ))) : (arg3.view.loc (c : Thread nD τ) ↦[arg3.view.set]{fullShare} f : sProp 𝕄)
      ⊢ iprop(((arg3.view.loc (c : Thread nD τ) ↦[arg3.view.set]{fullShare} f) -∗ wp frame (wpE (defs₀ (F := F)) Variants.none (c : Thread nD τ) none) Set.univ (Prog.ret (arg3.view.read (Elt F) f)) Q)
        -∗ wp frame (wpE (defs₀ (F := F)) Variants.none (c : Thread nD τ) none) Set.univ (loadBias (F := F) arg3) Q) := by
    rw [← e f]
    exact wp_load_rect (defs := defs₀ (F := F)) (Q := Q) Variants.none (c : Thread nD τ) none Set.univ (m := arg3) (r := Rect.unit (s := S1x128) ![0, 0] S1x128.size inb_S1x128_S1x128_0_0)
      (hl := View.loadsAt_vmem h_S1x128) (k := Prog.ret) (S := arg3.view.set) (q := fullShare) (f := f) (View.set_slice_subset _ _)
  unfold owns
  iintro ⟨%f, %hf, H⟩ Hk
  iapply (h f) $$ H
  iintro H
  rw [wp_ret, hf]
  imodintro
  iapply Hk
  iexists f
  isplitr; · ipureintro; exact hf
  iexact H

/-- The load of the weights gives the weights. -/
theorem wp_loadWeights (w : Vec F S384x128 .f32) (Q : Vec F S384x128 .f32 → sProp 𝕄) :
    owns (c : Thread nD τ) arg2 fullShare w
      ⊢ iprop((owns (c : Thread nD τ) arg2 fullShare w -∗ Q w)
        -∗ wp frame (wpE (defs₀ (F := F)) Variants.none (c : Thread nD τ) none) Set.univ (loadWeights (F := F) arg2) Q) := by
  have e (f : Buf (Elt F) (arg2.view.loc (c : Thread nD τ))) : (arg2.access (Rect.unit (s := S384x128) ![0, 0] S384x128.size inb_S384x128_S384x128_0_0)).read (Elt F) f = arg2.view.read (Elt F) f := by
    funext j
    refine congrArg (arg2.view.read (Elt F) f) ?_
    funext a
    apply Fin.ext
    rw [Rect.emb_apply]
    match a with
    | ⟨0, _⟩ => exact (Nat.zero_add _).trans (Nat.one_mul _)
    | ⟨1, _⟩ => exact (Nat.zero_add _).trans (Nat.one_mul _)
  have h (f : Buf (Elt F) (arg2.view.loc (c : Thread nD τ))) : (arg2.view.loc (c : Thread nD τ) ↦[arg2.view.set]{fullShare} f : sProp 𝕄)
      ⊢ iprop(((arg2.view.loc (c : Thread nD τ) ↦[arg2.view.set]{fullShare} f) -∗ wp frame (wpE (defs₀ (F := F)) Variants.none (c : Thread nD τ) none) Set.univ (Prog.ret (arg2.view.read (Elt F) f)) Q)
        -∗ wp frame (wpE (defs₀ (F := F)) Variants.none (c : Thread nD τ) none) Set.univ (loadWeights (F := F) arg2) Q) := by
    rw [← e f]
    exact wp_load_rect (defs := defs₀ (F := F)) (Q := Q) Variants.none (c : Thread nD τ) none Set.univ (m := arg2) (r := Rect.unit (s := S384x128) ![0, 0] S384x128.size inb_S384x128_S384x128_0_0)
      (hl := View.loadsAt_vmem h_S384x128) (k := Prog.ret) (S := arg2.view.set) (q := fullShare) (f := f) (View.set_slice_subset _ _)
  unfold owns
  iintro ⟨%f, %hf, H⟩ Hk
  iapply (h f) $$ H
  iintro H
  rw [wp_ret, hf]
  imodintro
  iapply Hk
  iexists f
  isplitr; · ipureintro; exact hf
  iexact H

/-! ## One step -/

/-- The result, block by block: the tile of each block of `x`. -/
def tiled (w : Vec F S384x128 .f32) (bias : Vec F S1x128 .f32) : S16384x17x128.Idx → F .f32 := fun i =>
  tile (blockVec X ⟨(i 0).val / 256, by have : (i 0).val < 16384 := (i 0).isLt; omega⟩) bias w (ix4 0 ⟨(i 0).val % 256, Nat.mod_lt _ (by decide)⟩ (i 1) (i 2))

/-- Block `b` of the result is the tile of block `b` of `x`. -/
theorem blockVec_tiled (w : Vec F S384x128 .f32) (bias : Vec F S1x128 .f32) (b : Fin 64) :
    blockVec (tiled X w bias) b = tile (blockVec X b) bias w := by
  funext j
  have hj : (j 1).val < 256 := (j 1).isLt
  have h0 : (j 0).val = 0 := by have : (j 0).val < 1 := (j 0).isLt; omega
  have e1 : (⟨(256 * b.val + (j 1).val) / 256, by omega⟩ : Fin 64) = b := Fin.ext (by show (256 * b.val + (j 1).val) / 256 = b.val; omega)
  have e2 : (ix4 (0 : Fin 1) (⟨(256 * b.val + (j 1).val) % 256, Nat.mod_lt _ (by decide)⟩ : Fin 256) (j 2) (j 3) : S1x256x17x128.Idx) = j := by
    funext a
    match a with
    | ⟨0, _⟩ => exact Fin.ext h0.symm
    | ⟨1, _⟩ => exact Fin.ext (by show (256 * b.val + (j 1).val) % 256 = (j 1).val; omega)
    | ⟨2, _⟩ => rfl
    | ⟨3, _⟩ => rfl
  show tile (blockVec X (⟨(256 * b.val + (j 1).val) / 256, by omega⟩ : Fin 64)) bias w (ix4 (0 : Fin 1) (⟨(256 * b.val + (j 1).val) % 256, Nat.mod_lt _ (by decide)⟩ : Fin 256) (j 2) (j 3)) = _
  rw [e1]
  exact congrArg (tile (blockVec X b) bias w) e2

/-- How many blocks have been started before step `k`. -/
def started (k : ℕ) : ℕ := if k = 0 then 0 else min (k + 5) 64
/-- How many blocks of the result are written before step `k`. -/
def landed (k : ℕ) : ℕ := if k = 64 then 64 else k - 6

/-- What is held before step `k`. -/
def Before (k : ℕ) : sProp 𝕄 := iprop(InFly c X k (started k) ∗ OutFly c G (landed k) k)

/-- The first five blocks are started when the first step begins. -/
theorem wp_prologue (Q : PUnit → sProp 𝕄) :
    InFly c X 0 0 ⊢ iprop((InFly c X 0 5 -∗ Q ⟨⟩)
      -∗ wp frame (wpE (defs₀ (F := F)) Variants.none (c : Thread nD τ) none) Set.univ (prologue (F := F)) Q) := by
  unfold prologue
  simp only [wp_bind]
  iintro H Hk
  iapply (wp_startNext c X (k := 0) (j := 0) (by decide) (by decide) (by decide) _) $$ H
  iintro H
  iapply (wp_startNext c X (k := 0) (j := 1) (by decide) (by decide) (by decide) _) $$ H
  iintro H
  iapply (wp_startNext c X (k := 0) (j := 2) (by decide) (by decide) (by decide) _) $$ H
  iintro H
  iapply (wp_startNext c X (k := 0) (j := 3) (by decide) (by decide) (by decide) _) $$ H
  iintro H
  iapply (wp_startNext c X (k := 0) (j := 4) (by decide) (by decide) (by decide) _) $$ H
  iintro H
  iapply Hk $$ H

/-- The last six blocks are waited for when the last step ends. -/
theorem wp_drain (Q : PUnit → sProp 𝕄) :
    iprop(OutFly c G 58 64 ∗ owesAny c) ⊢ iprop((iprop(OutFly c G 64 64 ∗ owesAny c) -∗ Q ⟨⟩)
      -∗ wp frame (wpE (defs₀ (F := F)) Variants.none (c : Thread nD τ) none) Set.univ (drain (F := F)) Q) := by
  unfold drain
  simp only [wp_bind]
  iintro H Hk
  iapply (wp_drainNext c G (u := 58) (k := 64) (by decide) (by decide) (by decide) _) $$ H
  iintro H
  iapply (wp_drainNext c G (u := 59) (k := 64) (by decide) (by decide) (by decide) _) $$ H
  iintro H
  iapply (wp_drainNext c G (u := 60) (k := 64) (by decide) (by decide) (by decide) _) $$ H
  iintro H
  iapply (wp_drainNext c G (u := 61) (k := 64) (by decide) (by decide) (by decide) _) $$ H
  iintro H
  iapply (wp_drainNext c G (u := 62) (k := 64) (by decide) (by decide) (by decide) _) $$ H
  iintro H
  iapply (wp_drainNext c G (u := 63) (k := 64) (by decide) (by decide) (by decide) _) $$ H
  iintro H
  iapply Hk $$ H

/-- Before the wait of step `k`, every block up to `k + 5` has been started. -/
theorem wp_starts (k : ℕ) (hk : k < 64) (Q : PUnit → sProp 𝕄) :
    InFly c X k (started k) ⊢ iprop((InFly c X k (started (k + 1)) -∗ Q ⟨⟩)
      -∗ wp frame (wpE (defs₀ (F := F)) Variants.none (c : Thread nD τ) none) Set.univ (opt (k = 0) prologue)
        (fun _ => wp frame (wpE (defs₀ (F := F)) Variants.none (c : Thread nD τ) none) Set.univ (opt (k + 5 < 64) (startBlock (F := F) (sl (k + 5)) (bk (k + 5)))) Q)) := by
  have e' : started (k + 1) = min (k + 6) 64 := if_neg (Nat.succ_ne_zero k)
  rw [e']
  by_cases h0 : k = 0
  · subst h0
    rw [opt_pos rfl, opt_pos (show 0 + 5 < 64 by decide), show started 0 = 0 from rfl]
    iintro H Hk
    iapply (wp_prologue c X _) $$ H
    iintro H
    iapply (wp_startNext c X (k := 0) (j := 5) (by decide) (by decide) (by decide) _) $$ H
    iexact Hk
  · rw [opt_neg h0, show started k = min (k + 5) 64 from if_neg h0]
    by_cases h2 : k + 5 < 64
    · rw [opt_pos h2, show min (k + 5) 64 = k + 5 by omega, show min (k + 6) 64 = k + 5 + 1 by omega]
      iintro H Hk
      rw [wp_pure]
      imodintro
      iapply (wp_startNext c X (k := k) (j := k + 5) (by omega) (by omega) h2 _) $$ H
      iexact Hk
    · rw [opt_neg h2, show min (k + 5) 64 = 64 by omega, show min (k + 6) 64 = 64 by omega]
      iintro H Hk
      rw [wp_pure, wp_pure]
      imodintro
      imodintro
      iapply Hk $$ H

/-- Before the store of step `k`, its slot is free. -/
theorem wp_reuse (k : ℕ) (hk : k < 64) (Q : PUnit → sProp 𝕄) :
    iprop(OutFly c G (landed k) k ∗ owesAny c) ⊢ iprop((iprop(OutFly c G (k - 5) k ∗ owesAny c) -∗ Q ⟨⟩)
      -∗ wp frame (wpE (defs₀ (F := F)) Variants.none (c : Thread nD τ) none) Set.univ (opt (6 ≤ k) (waitOut (F := F) (sl k))) Q) := by
  rw [show landed k = k - 6 from if_neg (by omega)]
  by_cases h : 6 ≤ k
  · rw [opt_pos h, show k - 5 = k - 6 + 1 by omega, show sl k = sl (k - 6) from Fin.ext (show k % 6 = (k - 6) % 6 by omega)]
    exact wp_drainNext c G (u := k - 6) (k := k) (by omega) (by omega) (by omega) Q
  · rw [opt_neg h, show k - 5 = k - 6 by omega]
    iintro H Hk
    rw [wp_pure]
    imodintro
    iapply Hk $$ H

/-- After the last step, every block of the result is written. -/
theorem wp_finish (k : ℕ) (hk : k < 64) (Q : PUnit → sProp 𝕄) :
    iprop(OutFly c G (k - 5) (k + 1) ∗ owesAny c) ⊢ iprop((iprop(OutFly c G (landed (k + 1)) (k + 1) ∗ owesAny c) -∗ Q ⟨⟩)
      -∗ wp frame (wpE (defs₀ (F := F)) Variants.none (c : Thread nD τ) none) Set.univ (opt (k = 63) (drain (F := F))) Q) := by
  by_cases h : k = 63
  · subst h
    rw [opt_pos rfl]
    exact wp_drain c G Q
  · rw [opt_neg h, show landed (k + 1) = k - 5 by unfold landed; rw [if_neg (by omega)]; omega]
    iintro H Hk
    rw [wp_pure]
    imodintro
    iapply Hk $$ H

/-- One step of the kernel, from what is held before it to what is held before the next. -/
theorem wp_step (t : Fin grid0.N) (w : Vec F S384x128 .f32) (bias : Vec F S1x128 .f32) (Q : PUnit → sProp 𝕄) :
    iprop(Before c X (tiled X w bias) t.val ∗ owesAny c ∗ owns (c : Thread nD τ) arg2 fullShare w ∗ owns (c : Thread nD τ) arg3 fullShare bias)
      ⊢ iprop((iprop(Before c X (tiled X w bias) (t.val + 1) ∗ owesAny c ∗ owns (c : Thread nD τ) arg2 fullShare w ∗ owns (c : Thread nD τ) arg3 fullShare bias) -∗ Q ⟨⟩)
        -∗ wp frame (wpE (defs₀ (F := F)) Variants.none (c : Thread nD τ) none) Set.univ
            (cc0__body (F := F) (grid0.coords t) xM (Memref.isWhole_whole main_arg0) arg2 harg2 arg3 harg3 yM (Memref.isWhole_whole main_v2) inM (Memref.isWhole_whole cc0_scratch0) outM (Memref.isWhole_whole cc0_scratch1) cc0_scratch2 cc0_scratch3) Q) := by
  have ht : t.val < 64 := lt_of_lt_of_eq t.isLt N_0
  have es : started (t.val + 1) = min (t.val + 6) 64 := if_neg (Nat.succ_ne_zero _)
  rw [body_canon]
  simp only [wp_bind]
  unfold Before
  iintro ⟨⟨HI, HO⟩, HW, H2, H3⟩ Hk
  iapply (wp_starts c X t.val ht _) $$ HI
  iintro HI
  iapply (wp_takeNext c X (k := t.val) (j := started (t.val + 1)) (by omega) (by omega) ht _) $$ [HI HW]
  · isplitl [HI]; · iexact HI
    iexact HW
  iintro ⟨HI, HW⟩
  iapply (wp_loadBias c arg3 bias _) $$ H3
  iintro H3
  iapply (wp_loadWeights c arg2 w _) $$ H2
  iintro H2
  iapply (wp_reuse c (tiled X w bias) t.val ht _) $$ [HO HW]
  · isplitl [HO]; · iexact HO
    iexact HW
  iintro ⟨HO, HW⟩
  iapply (wp_putNext c (tiled X w bias) (u := t.val - 5) (k := t.val) (by omega) (by omega) ht _ (blockVec_tiled X w bias (bk t.val)).symm _) $$ HO
  iintro HO
  iapply (wp_finish c (tiled X w bias) t.val ht _) $$ [HO HW]
  · isplitl [HO]; · iexact HO
    iexact HW
  iintro ⟨HO, HW⟩
  iapply Hk
  isplitl [HI HO]
  · isplitl [HI]; · iexact HI
    iexact HO
  isplitl [HW]; · iexact HW
  isplitl [H2]; · iexact H2
  iexact H3

end Cert.Proof
end
-- ==== Proof.Whole.lean ====
module

public import proofs.«01_k».proof.Proof.Step
public import proofs.«01_k».proof.Proof.Gen.KernelIdeal.Frame
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (c : Dev nD) (X G : S16384x17x128.Idx → F .f32)

/-! ## The arrays and slot buffers, whole and in pieces -/

/-- The elements of block `b` of an array. -/
def blockSet (b : Fin 64) : Finset S16384x17x128.Idx := rowSet b 0 ∪ rowSet b 1

/-- An element is in block `b` when its row lies there. -/
theorem mem_blockSet {b : Fin 64} {i : S16384x17x128.Idx} : i ∈ blockSet b ↔ (i 0).val / 256 = b.val := by
  unfold blockSet
  rw [Finset.mem_union, mem_rowSet, mem_rowSet]
  show (i 0).val / 128 = 2 * b.val + 0 ∨ (i 0).val / 128 = 2 * b.val + 1 ↔ _
  omega

/-- Two different blocks share no element. -/
theorem blockSet_disjoint (b b' : Fin 64) (h : b ≠ b') : Disjoint (blockSet b) (blockSet b') := by
  rw [Finset.disjoint_left]
  intro i h1 h2
  rw [mem_blockSet] at h1 h2
  exact h (Fin.ext (h1.symm.trans h2))
/-- Each element lies in some block. -/
theorem blockSet_all (i : S16384x17x128.Idx) : ∃ b, i ∈ blockSet b := by
  have : (i 0).val < 16384 := (i 0).isLt
  exact ⟨⟨(i 0).val / 256, by omega⟩, mem_blockSet.mpr rfl⟩
/-- Two different slots share no element. -/
theorem slotSet_disjoint (s s' : Fin 6) (h : s ≠ s') : Disjoint (slotSet s) (slotSet s') := by
  rw [Finset.disjoint_left]
  intro i h1 h2
  rw [mem_slotSet] at h1 h2
  exact h (h1.symm.trans h2)
/-- Each element of a slot buffer lies in some slot. -/
theorem slotSet_all (i : S6x256x17x128.Idx) : ∃ s, i ∈ slotSet s := ⟨i 0, mem_slotSet.mpr rfl⟩

/-- The elements `S` of `x`, at `f`. -/
def xPt (f : S16384x17x128.Idx → F .f32) (S : Finset S16384x17x128.Idx) : sProp 𝕄 := iprop((xM.view.loc (c : Thread nD τ)) ↦[S]{fullShare} f)
/-- The elements `S` of the result, at `f`. -/
def yPt (f : S16384x17x128.Idx → F .f32) (S : Finset S16384x17x128.Idx) : sProp 𝕄 := iprop((yM.view.loc (c : Thread nD τ)) ↦[S]{fullShare} f)

/-- Half a block of `x` is held as those elements of `x`; -/
theorem xP_eq (f : S16384x17x128.Idx → F .f32) (b : Fin 64) (k : Fin 2) : xP c f b k = xPt c f (rowSet b k) := congrArg (xPt c f) (xHalf_set b k)
/-- half a block of the result likewise. -/
theorem yP_eq (f : S16384x17x128.Idx → F .f32) (b : Fin 64) (k : Fin 2) : yP c f b k = yPt c f (rowSet b k) := congrArg (yPt c f) (yHalf_set b k)

/-- The elements of block `b` of `x` are its two halves; -/
theorem xPt_block (f : S16384x17x128.Idx → F .f32) (b : Fin 64) : xPt c f (blockSet b) = wholeX c f b := by
  unfold wholeX
  rw [xP_eq, xP_eq]
  have h : (xPt c f (rowSet b 0 ∪ rowSet b 1) : sProp 𝕄) ⊣⊢ iprop(xPt c f (rowSet b 0) ∗ xPt c f (rowSet b 1)) := pointsTo_union (rowSet_disjoint (Or.inr (by decide)))
  exact BI.equiv_iff.mp ⟨h.1, h.2⟩
/-- those of the result likewise. -/
theorem yPt_block (f : S16384x17x128.Idx → F .f32) (b : Fin 64) : yPt c f (blockSet b) = wholeY c f b := by
  unfold wholeY
  rw [yP_eq, yP_eq]
  have h : (yPt c f (rowSet b 0 ∪ rowSet b 1) : sProp 𝕄) ⊣⊢ iprop(yPt c f (rowSet b 0) ∗ yPt c f (rowSet b 1)) := pointsTo_union (rowSet_disjoint (Or.inr (by decide)))
  exact BI.equiv_iff.mp ⟨h.1, h.2⟩

/-- The blocks cover `x`, -/
theorem x_cover : (Finset.univ : Finset (Fin 64)).biUnion (β := Idx ((c : Thread nD τ).loc main_arg0)) blockSet = Finset.univ := by
  refine Finset.eq_univ_iff_forall.mpr ?_
  intro i
  refine Finset.mem_biUnion.mpr ?_
  obtain ⟨b, hb⟩ := blockSet_all i
  exact ⟨b, Finset.mem_univ _, hb⟩
/-- and they are disjoint. -/
theorem x_disjoint (b b' : Fin 64) (h : b ≠ b') : Disjoint (α := Finset (Idx ((c : Thread nD τ).loc main_arg0))) (blockSet b) (blockSet b') := blockSet_disjoint b b' h
/-- The blocks cover the result, -/
theorem y_cover : (Finset.univ : Finset (Fin 64)).biUnion (β := Idx ((c : Thread nD τ).loc main_v2)) blockSet = Finset.univ := by
  refine Finset.eq_univ_iff_forall.mpr ?_
  intro i
  refine Finset.mem_biUnion.mpr ?_
  obtain ⟨b, hb⟩ := blockSet_all i
  exact ⟨b, Finset.mem_univ _, hb⟩
/-- and they are disjoint. -/
theorem y_disjoint (b b' : Fin 64) (h : b ≠ b') : Disjoint (α := Finset (Idx ((c : Thread nD τ).loc main_v2))) (blockSet b) (blockSet b') := blockSet_disjoint b b' h
/-- The slots cover the input buffer, -/
theorem inSlots_cover : (Finset.univ : Finset (Fin 6)).biUnion (β := Idx ((c : Thread nD τ).loc cc0_scratch0)) slotSet = Finset.univ := by
  refine Finset.eq_univ_iff_forall.mpr ?_
  intro i
  refine Finset.mem_biUnion.mpr ?_
  obtain ⟨b, hb⟩ := slotSet_all i
  exact ⟨b, Finset.mem_univ _, hb⟩
/-- and they are disjoint. -/
theorem inSlots_disjoint (b b' : Fin 6) (h : b ≠ b') : Disjoint (α := Finset (Idx ((c : Thread nD τ).loc cc0_scratch0))) (slotSet b) (slotSet b') := slotSet_disjoint b b' h
/-- The slots cover the output buffer, -/
theorem outSlots_cover : (Finset.univ : Finset (Fin 6)).biUnion (β := Idx ((c : Thread nD τ).loc cc0_scratch1)) slotSet = Finset.univ := by
  refine Finset.eq_univ_iff_forall.mpr ?_
  intro i
  refine Finset.mem_biUnion.mpr ?_
  obtain ⟨b, hb⟩ := slotSet_all i
  exact ⟨b, Finset.mem_univ _, hb⟩
/-- and they are disjoint. -/
theorem outSlots_disjoint (b b' : Fin 6) (h : b ≠ b') : Disjoint (α := Finset (Idx ((c : Thread nD τ).loc cc0_scratch1))) (slotSet b) (slotSet b') := slotSet_disjoint b b' h
/-- `x` is its blocks. -/
theorem x_blocks (f : S16384x17x128.Idx → F .f32) : (((c : Thread nD τ).loc main_arg0) ↦{fullShare} f : sProp 𝕄) = bigSep Finset.univ fun b => wholeX c f b := by
  have h := Ring.pointsTo_blocks (Val := Elt F) (Ix := Unit) (Name := ℕ) (U := Pipeline.UD sig nD τ) (Lvl := ℕ) (q := fullShare) (ℓ := (c : Thread nD τ).loc main_arg0) blockSet (x_disjoint c) (x_cover c) f
  exact h.trans (bigSep_congr fun b _ => xPt_block c f b)
/-- The result is its blocks. -/
theorem y_blocks (f : S16384x17x128.Idx → F .f32) : (((c : Thread nD τ).loc main_v2) ↦{fullShare} f : sProp 𝕄) = bigSep Finset.univ fun b => wholeY c f b := by
  have h := Ring.pointsTo_blocks (Val := Elt F) (Ix := Unit) (Name := ℕ) (U := Pipeline.UD sig nD τ) (Lvl := ℕ) (q := fullShare) (ℓ := (c : Thread nD τ).loc main_v2) blockSet (y_disjoint c) (y_cover c) f
  exact h.trans (bigSep_congr fun b _ => yPt_block c f b)
/-- A block of the result at given contents is at some contents. -/
theorem wholeY_some (f : S16384x17x128.Idx → F .f32) (b : Fin 64) : wholeY c f b ⊢ someY (F := F) c b := by
  unfold wholeY someY
  iintro ⟨H0, H1⟩
  isplitl [H0]
  · iexists _; iexact H0
  · iexists _; iexact H1

/-- Two halves of an input slot, each at its own valuation, are the slot at some valuation. -/
theorem inPt_join (f g : S6x256x17x128.Idx → F .f32) (s : Fin 6) : iprop(iP c f s 0 ∗ iP c g s 1) ⊢ iprop(∃ h, inPt c h (slotSet s)) := by
  rw [iP_eq, iP_eq, slotSet_split]
  exact (pointsTo_join (halfSet_disjoint (Or.inr (by decide)))).trans (BIClass.exists_intro (Φ := fun h => inPt c h (halfSet s 0 ∪ halfSet s 1)) _)
/-- The slot buffer is its six slots. -/
theorem inPt_slots (f : S6x256x17x128.Idx → F .f32) : (((c : Thread nD τ).loc cc0_scratch0) ↦{fullShare} f : sProp 𝕄) = bigSep Finset.univ fun s => inPt c f (slotSet s) := by
  have h := Ring.pointsTo_blocks (Val := Elt F) (Ix := Unit) (Name := ℕ) (U := Pipeline.UD sig nD τ) (Lvl := ℕ) (q := fullShare) (ℓ := (c : Thread nD τ).loc cc0_scratch0) slotSet (inSlots_disjoint c) (inSlots_cover c) f
  exact h
/-- The slots, each at contents of its own, are the slot buffer at some contents. -/
theorem inPt_slots_join : bigSep Finset.univ (fun s => iprop(∃ f, inPt c f (slotSet s))) ⊢ (iprop(∃ f, ((c : Thread nD τ).loc cc0_scratch0) ↦{fullShare} f) : sProp 𝕄) := by
  have h := Ring.pointsTo_blocks_join_exists (Val := Elt F) (Ix := Unit) (Name := ℕ) (U := Pipeline.UD sig nD τ) (Lvl := ℕ) (q := fullShare) (ℓ := (c : Thread nD τ).loc cc0_scratch0) slotSet (inSlots_disjoint c) (inSlots_cover c) (fun _ => FloatOps.ofBits .f32 0#32)
  exact h

/-- The slot buffer at some contents, with its cells at zero, is six free slots. -/
theorem freeI_in : iprop((∃ f, ((c : Thread nD τ).loc cc0_scratch0) ↦{fullShare} f) ∗ bigSep Finset.univ (fun s : Fin 6 => semVal ((c : Thread nD τ), semI s) 0)) ⊢ (bigSep Finset.univ (freeI (F := F) c) : sProp 𝕄) := by
  have h (f : S6x256x17x128.Idx → F .f32) (s : Fin 6) : iprop(inPt c f (slotSet s) ∗ semVal ((c : Thread nD τ), semI s) 0) ⊢ freeI (F := F) c s := by
    unfold freeI
    iintro ⟨H, HS⟩
    ihave H := (inPt_slot c f s).1 $$ H
    icases H with ⟨H0, H1⟩
    isplitl [H0]; · iexists _; iexact H0
    isplitl [H1]; · iexists _; iexact H1
    iexact HS
  iintro ⟨⟨%f, H⟩, HS⟩
  ihave H := (Entails.of_eq (inPt_slots c f)) $$ H
  icombine H HS as H
  ihave H := (Entails.of_eq (bigSep_sep (Finset.univ : Finset (Fin 6)) (fun s => inPt c f (slotSet s)) (fun s => semVal ((c : Thread nD τ), semI s) 0)).symm) $$ H
  have hb : bigSep (Finset.univ : Finset (Fin 6)) (fun s => iprop(inPt c f (slotSet s) ∗ semVal ((c : Thread nD τ), semI s) 0)) ⊢ (bigSep Finset.univ (freeI (F := F) c) : sProp 𝕄) := bigSep_mono fun s _ => h f s
  iapply hb $$ H
/-- Six free slots are the slot buffer at some contents, with its cells at zero. -/
theorem freeI_out : (bigSep Finset.univ (freeI (F := F) c) : sProp 𝕄) ⊢ iprop((∃ f, ((c : Thread nD τ).loc cc0_scratch0) ↦{fullShare} f) ∗ bigSep Finset.univ (fun s : Fin 6 => semVal ((c : Thread nD τ), semI s) 0)) := by
  have h (s : Fin 6) : freeI (F := F) c s ⊢ iprop((∃ f, inPt c f (slotSet s)) ∗ semVal ((c : Thread nD τ), semI s) 0) := by
    unfold freeI
    iintro ⟨⟨%f, H0⟩, ⟨%g, H1⟩, HS⟩
    isplitl [H0 H1]
    · iapply (inPt_join c f g s)
      isplitl [H0]; · iexact H0
      iexact H1
    · iexact HS
  iintro H
  have hb : (bigSep Finset.univ (freeI (F := F) c) : sProp 𝕄) ⊢ bigSep (Finset.univ : Finset (Fin 6)) (fun s => iprop((∃ f, inPt c f (slotSet s)) ∗ semVal ((c : Thread nD τ), semI s) 0)) := bigSep_mono fun s _ => h s
  ihave H := hb $$ H
  have hs : bigSep (Finset.univ : Finset (Fin 6)) (fun s => iprop((∃ f, inPt c f (slotSet s)) ∗ semVal ((c : Thread nD τ), semI s) 0)) ⊢ (iprop(bigSep Finset.univ (fun s => iprop(∃ f, inPt c f (slotSet s))) ∗ bigSep Finset.univ (fun s : Fin 6 => semVal ((c : Thread nD τ), semI s) 0)) : sProp 𝕄) := Entails.of_eq (bigSep_sep _ _ _)
  ihave H := hs $$ H
  icases H with ⟨H, HS⟩
  isplitl [H]
  · iapply (inPt_slots_join c) $$ H
  · iexact HS

/-- The slot buffer is its six slots. -/
theorem outPt_slots (f : S6x256x17x128.Idx → F .f32) : (((c : Thread nD τ).loc cc0_scratch1) ↦{fullShare} f : sProp 𝕄) = bigSep Finset.univ fun s => outPt c f (slotSet s) := by
  have h := Ring.pointsTo_blocks (Val := Elt F) (Ix := Unit) (Name := ℕ) (U := Pipeline.UD sig nD τ) (Lvl := ℕ) (q := fullShare) (ℓ := (c : Thread nD τ).loc cc0_scratch1) slotSet (outSlots_disjoint c) (outSlots_cover c) f
  exact h
/-- The slots, each at contents of its own, are the slot buffer at some contents. -/
theorem outPt_slots_join : bigSep Finset.univ (fun s => iprop(∃ f, outPt c f (slotSet s))) ⊢ (iprop(∃ f, ((c : Thread nD τ).loc cc0_scratch1) ↦{fullShare} f) : sProp 𝕄) := by
  have h := Ring.pointsTo_blocks_join_exists (Val := Elt F) (Ix := Unit) (Name := ℕ) (U := Pipeline.UD sig nD τ) (Lvl := ℕ) (q := fullShare) (ℓ := (c : Thread nD τ).loc cc0_scratch1) slotSet (outSlots_disjoint c) (outSlots_cover c) (fun _ => FloatOps.ofBits .f32 0#32)
  exact h

/-- The slot buffer at some contents, with its cells at zero, is six free slots. -/
theorem freeO_in : iprop((∃ f, ((c : Thread nD τ).loc cc0_scratch1) ↦{fullShare} f) ∗ bigSep Finset.univ (fun s : Fin 6 => semVal ((c : Thread nD τ), semO s) 0)) ⊢ (bigSep Finset.univ (freeO (F := F) c) : sProp 𝕄) := by
  have h (f : S6x256x17x128.Idx → F .f32) (s : Fin 6) : iprop(outPt c f (slotSet s) ∗ semVal ((c : Thread nD τ), semO s) 0) ⊢ freeO (F := F) c s := by
    unfold freeO
    iintro ⟨H, HS⟩
    ihave H := (outPt_slot c f s).1 $$ H
    icases H with ⟨H0, H1⟩
    isplitl [H0]; · iexists _; iexact H0
    isplitl [H1]; · iexists _; iexact H1
    iexact HS
  iintro ⟨⟨%f, H⟩, HS⟩
  ihave H := (Entails.of_eq (outPt_slots c f)) $$ H
  icombine H HS as H
  ihave H := (Entails.of_eq (bigSep_sep (Finset.univ : Finset (Fin 6)) (fun s => outPt c f (slotSet s)) (fun s => semVal ((c : Thread nD τ), semO s) 0)).symm) $$ H
  have hb : bigSep (Finset.univ : Finset (Fin 6)) (fun s => iprop(outPt c f (slotSet s) ∗ semVal ((c : Thread nD τ), semO s) 0)) ⊢ (bigSep Finset.univ (freeO (F := F) c) : sProp 𝕄) := bigSep_mono fun s _ => h f s
  iapply hb $$ H
/-- Six free slots are the slot buffer at some contents, with its cells at zero. -/
theorem freeO_out : (bigSep Finset.univ (freeO (F := F) c) : sProp 𝕄) ⊢ iprop((∃ f, ((c : Thread nD τ).loc cc0_scratch1) ↦{fullShare} f) ∗ bigSep Finset.univ (fun s : Fin 6 => semVal ((c : Thread nD τ), semO s) 0)) := by
  have h (s : Fin 6) : freeO (F := F) c s ⊢ iprop((∃ f, outPt c f (slotSet s)) ∗ semVal ((c : Thread nD τ), semO s) 0) := by
    unfold freeO
    iintro ⟨⟨%f, H0⟩, ⟨%g, H1⟩, HS⟩
    isplitl [H0 H1]
    · iapply (outPt_join c f g s)
      isplitl [H0]; · iexact H0
      iexact H1
    · iexact HS
  iintro H
  have hb : (bigSep Finset.univ (freeO (F := F) c) : sProp 𝕄) ⊢ bigSep (Finset.univ : Finset (Fin 6)) (fun s => iprop((∃ f, outPt c f (slotSet s)) ∗ semVal ((c : Thread nD τ), semO s) 0)) := bigSep_mono fun s _ => h s
  ihave H := hb $$ H
  have hs : bigSep (Finset.univ : Finset (Fin 6)) (fun s => iprop((∃ f, outPt c f (slotSet s)) ∗ semVal ((c : Thread nD τ), semO s) 0)) ⊢ (iprop(bigSep Finset.univ (fun s => iprop(∃ f, outPt c f (slotSet s))) ∗ bigSep Finset.univ (fun s : Fin 6 => semVal ((c : Thread nD τ), semO s) 0)) : sProp 𝕄) := Entails.of_eq (bigSep_sep _ _ _)
  ihave H := hs $$ H
  icases H with ⟨H, HS⟩
  isplitl [H]
  · iapply (outPt_slots_join c) $$ H
  · iexact HS

end Cert.Proof
end
-- ==== Proof.Launch.lean ====
module

public import proofs.«01_k».proof.Proof.Whole

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig Unit (Elt F) ℕ (Pipeline.UD sig nD τ) ℕ

variable (c : Dev nD) (X G : S16384x17x128.Idx → F .f32)

open Idealize.ShloMosaic.Pipeline (Dat Cfg Window BodyObligation cellOf)

/-! ## What is held before the first step and after the last -/

/-- Before the first step every slot is free, every block of `x` is home, and the result holds anything. -/
theorem before_zero : iprop(bigSep Finset.univ (freeI (F := F) c) ∗ bigSep Finset.univ (freeO (F := F) c) ∗ bigSep Finset.univ (wholeX c X) ∗ bigSep Finset.univ (someY (F := F) c)) ⊢ Before c X G 0 := by
  have e1 : inSt c X 0 (started 0) = freeI (F := F) c := funext fun s => if_neg (Nat.not_lt_zero _)
  have e2 : xSt c X 0 (started 0) = wholeX c X := funext fun b => if_neg fun h => Nat.not_lt_zero _ h.2
  have e3 : outSt c G (landed 0) 0 = freeO (F := F) c := funext fun s => if_neg (Nat.not_lt_zero _)
  have e4 : ySt c G (landed 0) 0 = someY (F := F) c := funext fun b => (if_neg (Nat.not_lt_zero _)).trans (if_neg (Nat.not_lt_zero _))
  unfold Before InFly OutFly
  rw [e1, e2, e3, e4]
  iintro ⟨H1, H2, H3, H4⟩
  isplitl [H1 H3]
  · isplitl [H1]; · iexact H1
    iexact H3
  · isplitl [H2]; · iexact H2
    iexact H4

/-- After the last step every slot is free, every block of `x` is home, and every block of the result is written. -/
theorem before_last : Before c X G 64 ⊢ iprop(bigSep Finset.univ (freeI (F := F) c) ∗ bigSep Finset.univ (freeO (F := F) c) ∗ bigSep Finset.univ (wholeX c X) ∗ bigSep Finset.univ (wholeY c G)) := by
  have e0 : started 64 = 64 := by decide
  have e0' : landed 64 = 64 := by decide
  have e1 : inSt c X 64 64 = freeI (F := F) c := funext fun s => if_neg (Nat.not_lt.mpr (le_slotBlk 64 s))
  have e2 : xSt c X 64 64 = wholeX c X := funext fun b => if_neg fun h => by omega
  have e3 : outSt c G 64 64 = freeO (F := F) c := funext fun s => if_neg (Nat.not_lt.mpr (le_slotBlk 64 s))
  have e4 : ySt c G 64 64 = wholeY c G := funext fun b => if_pos b.isLt
  unfold Before InFly OutFly
  rw [e0, e0', e1, e2, e3, e4]
  iintro ⟨⟨H1, H3⟩, H2, H4⟩
  isplitl [H1]; · iexact H1
  isplitl [H2]; · iexact H2
  isplitl [H3]; · iexact H3
  iexact H4

/-! ## The kernel's own cells, and the arrays it reads and writes by its own copies -/

/-- The kernel's semaphore cells: six for the input slots, six for the output slots. -/
abbrev osem0 : Fin 12 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13] : Fin 12 → SemLoc sig) j
/-- These cells are the kernel's own, each listed once. -/
theorem ownSemFacts0 : Pipeline.OwnSemFacts spec0 osem0 := by decide
/-- The cells at zero are those of the input slots and those of the output slots. -/
theorem ownSems0_slots :
    (Pipeline.ownSems0 (Ix := Unit) (Name := ℕ) (U := Pipeline.UD sig nD τ) (Lvl := ℕ) (Val := Elt F) (τ := τ) osem0 c : sProp 𝕄)
      ⊣⊢ iprop(bigSep Finset.univ (fun s : Fin 6 => semVal ((c : Thread nD τ), semI s) 0) ∗ bigSep Finset.univ (fun s : Fin 6 => semVal ((c : Thread nD τ), semO s) 0)) := by
  rw [Pipeline.ownSems0_eq_of_list c osem0 [0, 1, 2, 3, 4, 5, 6, 7, 8, 9, 10, 11] (by decide) (by decide),
    bigSep_univ_eq_bigSepL [(0 : Fin 6), 1, 2, 3, 4, 5] (by decide) (by decide), bigSep_univ_eq_bigSepL [(0 : Fin 6), 1, 2, 3, 4, 5] (by decide) (by decide)]
  show iprop(semVal ((c : Thread nD τ), semI 0) 0 ∗ semVal ((c : Thread nD τ), semI 1) 0 ∗ semVal ((c : Thread nD τ), semI 2) 0 ∗ semVal ((c : Thread nD τ), semI 3) 0 ∗ semVal ((c : Thread nD τ), semI 4) 0 ∗ semVal ((c : Thread nD τ), semI 5) 0 ∗ semVal ((c : Thread nD τ), semO 0) 0 ∗ semVal ((c : Thread nD τ), semO 1) 0 ∗ semVal ((c : Thread nD τ), semO 2) 0 ∗ semVal ((c : Thread nD τ), semO 3) 0 ∗ semVal ((c : Thread nD τ), semO 4) 0 ∗ semVal ((c : Thread nD τ), semO 5) 0)
    ⊣⊢ iprop((semVal ((c : Thread nD τ), semI 0) 0 ∗ semVal ((c : Thread nD τ), semI 1) 0 ∗ semVal ((c : Thread nD τ), semI 2) 0 ∗ semVal ((c : Thread nD τ), semI 3) 0 ∗ semVal ((c : Thread nD τ), semI 4) 0 ∗ semVal ((c : Thread nD τ), semI 5) 0) ∗ semVal ((c : Thread nD τ), semO 0) 0 ∗ semVal ((c : Thread nD τ), semO 1) 0 ∗ semVal ((c : Thread nD τ), semO 2) 0 ∗ semVal ((c : Thread nD τ), semO 3) 0 ∗ semVal ((c : Thread nD τ), semO 4) 0 ∗ semVal ((c : Thread nD τ), semO 5) 0)
  constructor
  · iintro ⟨A0, A1, A2, A3, A4, A5, H⟩
    isplitl [A0 A1 A2 A3 A4 A5]
    · isplitl [A0]; · iexact A0
      isplitl [A1]; · iexact A1
      isplitl [A2]; · iexact A2
      isplitl [A3]; · iexact A3
      isplitl [A4]; · iexact A4
      iexact A5
    · iexact H
  · iintro ⟨⟨A0, A1, A2, A3, A4, A5⟩, H⟩
    isplitl [A0]; · iexact A0
    isplitl [A1]; · iexact A1
    isplitl [A2]; · iexact A2
    isplitl [A3]; · iexact A3
    isplitl [A4]; · iexact A4
    isplitl [A5]; · iexact A5
    iexact H

/-- The array read by the kernel's own copies. -/
def H0 : Finset (Ref sig .tc) := {main_arg0}
/-- That array is none of the staged ones. -/
theorem H0_sub : H0 ⊆ Pipeline.restRefs sig spec0 := by decide
/-- The array written by the kernel's own copies. -/
def R0 : Finset (Ref sig .tc) := {main_v2}
/-- That array is none of the staged ones either, and not the one read. -/
theorem R0_sub : R0 ⊆ Pipeline.restRefs sig spec0 \ H0 := by decide

variable (m : (ℓ : Loc nD τ sig) → Buf (Elt F) ℓ) (ρ : Dev nD → PrngReg)

set_option maxHeartbeats 800000 in
/-- The host's operations, then the region. -/
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- What the kernel leaves in the result. -/
def result (m : (ℓ : Loc nD τ sig) → Buf (Elt F) ℓ) : S16384x17x128.Idx → F .f32 := tiled (V m c main_arg0) (V m c main_v0) (V m c main_v1)
/-- The arrays after the region: the result at `result`, the others as the region found them. -/
def after (m : (ℓ : Loc nD τ sig) → Buf (Elt F) ℓ) (b : Ref sig .tc) : Buf (Elt F) ((c : Thread nD τ).loc b) :=
  Function.update (β := fun b => Buf (Elt F) ((c : Thread nD τ).loc b)) (V m c) main_v2 (result c m) b
/-- After the region the result is at `result`. -/
theorem after_result : after c m main_v2 = result c m := Function.update_self _ _ _

/-- The weights' block is the whole of the weights, at every point. -/
theorem iblk0 (t : Fin cfg0.N) : iblk m c 0 t = V m c main_v0 := by
  funext j
  refine congrArg (V m c main_v0) ?_
  funext a
  apply Fin.ext
  match a with
  | ⟨0, _⟩ => exact (by simp : 0 * 384 + 1 * (j 0).val = (j 0).val)
  | ⟨1, _⟩ => exact (by simp : 0 * 128 + 1 * (j 1).val = (j 1).val)
/-- The bias's block is the whole of the bias, at every point. -/
theorem iblk1 (t : Fin cfg0.N) : iblk m c 1 t = V m c main_v1 := by
  funext j
  refine congrArg (V m c main_v1) ?_
  funext a
  apply Fin.ext
  match a with
  | ⟨0, _⟩ => exact (by simp : 0 * 1 + 1 * (j 0).val = (j 0).val)
  | ⟨1, _⟩ => exact (by simp : 0 * 128 + 1 * (j 1).val = (j 1).val)

/-! ## The proof data -/

/-- What is held before point `k`: the generator's register, and what the step needs. -/
def Held (k : ℕ) : sProp 𝕄 := iprop((∃ r, prngReg c r) ∗ Before c (V m c main_arg0) (result c m) k)

/-- The pipeline's proof data: the arrays as the region finds them, the two staged operands left in place, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Held c m t.val
  q _ := fullShare
  owed _ := 0

/-- The arrays of the proof data are those the region finds. -/
theorem A_eq (w : Fin cfg0.W) : (dats m 0 c).A w = V m c (Pipeline.arrRef spec0 w) := by dsimp only [dats]
/-- What the proof data holds before point `t`, -/
theorem Held_castSucc (t : Fin cfg0.N) : (dats m 0 c).Φ t.castSucc = Held c m t.val := by
  dsimp only [dats]; simp only [Fin.coe_castSucc]
/-- and after it. -/
theorem Held_succ (t : Fin cfg0.N) : (dats m 0 c).Φ t.succ = Held c m (t.val + 1) := by
  dsimp only [dats]; simp only [Fin.val_succ]
/-- The staged weights after point `t`, -/
theorem after0 (t : Fin cfg0.N) : (dats m 0 c).after 0 t = iblk m c 0 t := by dsimp only [dats]
/-- and the staged bias. -/
theorem after1 (t : Fin cfg0.N) : (dats m 0 c).after 1 t = iblk m c 1 t := by dsimp only [dats]

/-- The staged weights are the weights, at every point. -/
theorem before0 (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The staged bias is the bias, at every point. -/
theorem before1 (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-- The staging buffer of the weights at point `t`. -/
abbrev stageW (t : Fin cfg0.N) : Memref sig .tc .vmem S384x128 .f32 := win0_0.stage (cfg0.slots t 0)
/-- The staging buffer of the bias at point `t`. -/
abbrev stageB (t : Fin cfg0.N) : Memref sig .tc .vmem S1x128 .f32 := win0_1.stage (cfg0.slots t 1)

/-- What the body is called with at point `t`, -/
def bodyPre (t : Fin cfg0.N) : sProp 𝕄 :=
  iprop((dats m 0 c).Φ t.castSucc ∗ (dats m 0 c).owesAt () t.castSucc
    ∗ (∃ d, owns (c : Thread nD τ) (stageW t) fullShare ((dats m 0 c).before 0 t d))
    ∗ (∃ d, owns (c : Thread nD τ) (stageB t) fullShare ((dats m 0 c).before 1 t d)))
/-- and what it returns. -/
def bodyPost (t : Fin cfg0.N) : sProp 𝕄 :=
  iprop((dats m 0 c).Φ t.succ ∗ (dats m 0 c).owesAt () t.succ
    ∗ owns (c : Thread nD τ) (stageW t) fullShare ((dats m 0 c).after 0 t)
    ∗ owns (c : Thread nD τ) (stageB t) fullShare ((dats m 0 c).after 1 t))

/-- The body at any point is one step of the kernel. -/
theorem sound_body (t : Fin cfg0.N) :
    bodyPre c m t ⊢ wp frame (wpE (defs₀ (F := F)) Variants.none (c : Thread nD τ) none) Set.univ (bodyAt0 t) (fun _ => bodyPost c m t) := by
  have hs := wp_step c (V m c main_arg0) (stageW t) (hstage0_0 ((cfg0.slots t 0).cast nbuf0_0)) (stageB t) (hstage0_1 ((cfg0.slots t 1).cast nbuf0_1)) t (V m c main_v0) (V m c main_v1) (fun _ => bodyPost c m t)
  unfold bodyPre
  simp only [before0, before1]
  rw [Held_castSucc, iblk0, iblk1]
  unfold Dat.owesAt Pipeline.owesWithin
  rw [show (dats m 0 c).owed t.castSucc = 0 from rfl]
  unfold Held
  iintro ⟨⟨Hg, HB⟩, ⟨%W, -, HW⟩, ⟨%d0, H0⟩, ⟨%d1, H1⟩⟩
  iapply hs $$ [HB HW H0 H1]
  · isplitl [HB]; · iexact HB
    isplitl [HW]; · unfold owesAny; iexists W; iexact HW
    isplitl [H0]; · iexact H0
    iexact H1
  iintro ⟨HB, HW, H0, H1⟩
  unfold bodyPost
  rw [Held_succ, after0, after1, iblk0, iblk1]
  unfold Dat.owesAt Pipeline.owesWithin owesAny
  rw [show (dats m 0 c).owed t.succ = 0 from rfl]
  unfold Held
  icases HW with ⟨%W', HW'⟩
  isplitl [Hg HB]
  · isplitl [Hg]; · iexact Hg
    iexact HB
  isplitl [HW']
  · iexists W'
    isplitr; · ipureintro; exact fun _ _ => Or.inl trivial
    iexact HW'
  isplitl [H0]; · iexact H0
  iexact H1

/-- What the pipeline calls at point `t` is the body there. -/
theorem defs₀_row (t : Fin cfg0.N) : defs₀ (F := F) .tc cfg0.body (cfg0.bodyArgs t (cfg0.slots t)) = bodyAt0 t := by
  unfold defs₀; rw [Defs.onTc_tc]
/-- The body meets what the pipeline asks of it at every point. -/
theorem body_obligation : BodyObligation (dats (F := F) m 0 c) (defs₀ (F := F)) Variants.none () Set.univ := fun t => by
  rw [bigSep_W0, bigSep_W0, defs₀_row]
  exact triple_restated (sound_body c m t) rfl .rfl fun _ => .rfl

/-- What the launch hands over is what the first step needs; -/
theorem hin : Pipeline.ΦDRG osem0 spec0 H0 R0 (V m) (V m) c ⊢ (dats m 0 c).Φ 0 := by
  rw [Pipeline.ΦDRG_eq, scopedRest0_eq, show (dats m 0 c).Φ 0 = Held c m 0 from rfl]
  have hH : (bigSep H0 (fun b => ((c : Thread nD τ).loc b) ↦{fullShare} V m c b) : sProp 𝕄) ⊢ bigSep Finset.univ (wholeX c (V m c main_arg0)) := by
    rw [BI.bigSep_eq_bigSepL_of_eq [main_arg0] (by decide) (by decide)]
    exact Entails.of_eq (x_blocks c (V m c main_arg0))
  have hR : (Pipeline.routed R0 c (V m c) : sProp 𝕄) ⊢ bigSep Finset.univ (someY (F := F) c) := by
    unfold Pipeline.routed
    rw [BI.bigSep_eq_bigSepL_of_eq [main_v2] (by decide) (by decide)]
    exact (Entails.of_eq (y_blocks c (V m c main_v2))).trans (bigSep_mono fun b _ => wholeY_some c _ b)
  unfold Held
  iintro ⟨⟨HI, HO⟩, Hg, HS, HH, HR⟩
  ihave HS := (ownSems0_slots (F := F) c).1 $$ HS
  icases HS with ⟨SI, SO⟩
  isplitl [Hg]; · iexact Hg
  iapply (before_zero c (V m c main_arg0) (result c m))
  isplitl [HI SI]
  · iapply (freeI_in (F := F) c)
    isplitl [HI]; · iexact HI
    iexact SI
  isplitl [HO SO]
  · iapply (freeO_in (F := F) c)
    isplitl [HO]; · iexact HO
    iexact SO
  isplitl [HH]
  · iapply hH $$ HH
  · iapply hR $$ HR

/-- and what is held after the last step is what the launch takes back, with the result written. -/
theorem hout : (dats m 0 c).Φ (Fin.last cfg0.N) ⊢ Pipeline.ΦDRG osem0 spec0 H0 R0 (V m) (fun c => after c m) c := by
  rw [Pipeline.ΦDRG_eq, scopedRest0_eq, show (dats m 0 c).Φ (Fin.last cfg0.N) = Held c m grid0.N from rfl]
  have hH : (bigSep Finset.univ (wholeX c (V m c main_arg0)) : sProp 𝕄) ⊢ (bigSep H0 (fun b => ((c : Thread nD τ).loc b) ↦{fullShare} V m c b) : sProp 𝕄) := by
    rw [BI.bigSep_eq_bigSepL_of_eq [main_arg0] (by decide) (by decide)]
    exact Entails.of_eq (x_blocks c (V m c main_arg0)).symm
  have hR : bigSep Finset.univ (wholeY c (result c m)) ⊢ (Pipeline.routed R0 c (after c m) : sProp 𝕄) := by
    unfold Pipeline.routed
    rw [BI.bigSep_eq_bigSepL_of_eq [main_v2] (by decide) (by decide)]
    refine (Entails.of_eq (y_blocks c (result c m)).symm).trans ?_
    rw [← after_result]
    exact .rfl
  unfold Held
  rw [N_0]
  iintro ⟨Hg, HB⟩
  ihave HB := (before_last c (V m c main_arg0) (result c m)) $$ HB
  icases HB with ⟨HI, HO, HH, HR⟩
  ihave HI := (freeI_out (F := F) c) $$ HI
  icases HI with ⟨HI, SI⟩
  ihave HO := (freeO_out (F := F) c) $$ HO
  icases HO with ⟨HO, SO⟩
  isplitl [HI HO]
  · isplitl [HI]; · iexact HI
    iexact HO
  isplitl [Hg]; · iexact Hg
  isplitl [SI SO]
  · iapply (ownSems0_slots (F := F) c).2
    isplitl [SI]; · iexact SI
    iexact SO
  isplitl [HH]
  · iapply hH $$ HH
  · iapply hR $$ HR

/-! ## The run -/

set_option backward.isDefEq.respectTransparency.types false in
/-- Every weakly fair run of the kernel's program terminates, with the arrays at what the proof data say and every semaphore at
zero. -/
theorem run_raw : θ_run defs (onTc (τ := τ) (main (F := F))) (s₀ m ρ) (fun r => Pipeline.FramePostRG cfgs (dats m) 0 R0 (V m) (fun c => after c m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation c m).loose) (hshare := fun c => (dats m 0 c).share_full fun _ => rfl)
    (howed := fun _ _ => rfl) (V := V m) (hmain := hmain m) (hA := fun c => A_eq c m) (G := fun c => after c m)
    (hin := fun c => hin c m) (hout := fun c => hout c m)

/-- Every weakly fair run of the kernel's program terminates, the arguments unchanged, the result at `result`, and every
semaphore at zero. -/
theorem run_kernel : θ_run defs (onTc (τ := τ) (main (F := F))) ⟨m, fun _ => 0, ρ⟩ (fun r =>
    (∀ c : Dev nD, r.2.mem ((c.tc : Thread nD τ).loc main_v2) = result c m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c =>
    ⟨(h.1.written c (Finset.mem_singleton_self main_v2)).trans (after_result c m),
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c)⟩, h.2⟩) (run_raw m ρ)

end Cert.Proof
end
-- ==== Proof.Same.lean ====
module

public import proofs.«01_k».proof.Defs
public import proofs.«01_k».proof.Proof.Gen.Kernel
public import proofs.«01_k».proof.Proof.Gen.KernelIdeal

@[expose] public section

set_option maxRecDepth 65536

noncomputable section

namespace Cert.Proof

open Idealize.ShloMosaic Idealize.SL.Sem

/-- A reading of the named constants at the machine's own floats: each name stands for the bits printed with it. -/
@[reducible] def literalNamed {F : FTy → Type} [FloatOps F] : Named F where
  named _ _ {φ} bits := Scalar.ofBits φ bits

section Bodies
attribute [local instance] literalNamed
variable {F : FTy → Type} [FloatOps F]

/-- The pieces of the body are the same text in both kernels: the first, -/
theorem part5_same : Cert.Kernel.k0_part5 (F := F) = Cert.KernelIdeal.k0_part5 (F := F) := rfl
/-- the second, -/
theorem part6_same : Cert.Kernel.k0_part6 (F := F) = Cert.KernelIdeal.k0_part6 (F := F) := rfl
/-- the third, -/
theorem part7_same : Cert.Kernel.k0_part7 (F := F) = Cert.KernelIdeal.k0_part7 (F := F) := rfl
/-- the fourth -/
theorem part8_same : Cert.Kernel.k0_part8 (F := F) = Cert.KernelIdeal.k0_part8 (F := F) := rfl
/-- and the last; -/
theorem part9_same : Cert.Kernel.k0_part9 (F := F) = Cert.KernelIdeal.k0_part9 (F := F) := rfl
/-- so is the whole body, -/
theorem body_same : Cert.Kernel.cc0__body (F := F) = Cert.KernelIdeal.cc0__body (F := F) := rfl
/-- so are the region's definitions, -/
theorem defs0_same : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
/-- the pipeline's definitions -/
theorem defs_same : Cert.Kernel.defs (F := F) = Cert.KernelIdeal.defs (F := F) :=
  congrArg (Pipeline.defs (Cert.KernelIdeal.pcfgs (F := F))) defs0_same
/-- and the host's program. -/
theorem main_same : Cert.Kernel.main (F := F) = Cert.KernelIdeal.main (F := F)  := rfl

/-- What the kernel with names does under that reading, the kernel as written does. -/
theorem kernel_of_ideal (h : ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) : Cert.quiescent_Kernel := fun m g _ => by
  rw [defs_same, main_same]; exact h m g
end Bodies

end Cert.Proof

end
-- ==== Proof.Runs.lean ====
module

public import proofs.«01_k».proof.Proof.Launch
public import proofs.«01_k».proof.Proof.Same
public import proofs.«01_k».proof.Proof.Gen.ReferenceIdeal.Run

@[expose] public section

noncomputable section

namespace Cert.Proof

open Idealize.ShloMosaic Idealize.ShloMosaic.TcCoe Idealize.SL.Sem

/-- The one side condition of the precondition's program. -/
theorem preFacts : Cert.Pre_x_is_finite.Facts where
  bcast_S_S16384x17x128 := by decide

section
attribute [local instance] literalNamed
/-- The kernel as written runs, leaves its arguments alone, and ends with every semaphore at zero. -/
theorem frame_kernel : Cert.quiescent_Kernel :=
  kernel_of_ideal fun m g => (θ_run Cert.KernelIdeal.defs _ _).mono (fun _ h => ⟨fun c => (h.1 c).2, h.2⟩) (run_kernel m g)
end

/-- So does the kernel over the extended reals; -/
theorem frame_kernelIdeal : Cert.quiescent_KernelIdeal :=
  fun m g _ => (θ_run Cert.KernelIdeal.defs _ _).mono (fun _ h => ⟨fun c => (h.1 c).2, h.2⟩) (run_kernel m g)
/-- the same under the precondition; -/
theorem frame_kernelIdeal_pre : Cert.quiescent_KernelIdeal_pre_x_is_finite (hPre_x_is_finite := preFacts) :=
  fun m g _ => frame_kernelIdeal m g trivial

/-- and so does the reference. -/
theorem frame_referenceIdeal : Cert.quiescent_ReferenceIdeal :=
  fun m g _ => (θ_run Cert.ReferenceIdeal.defs _ _).mono (fun r h => ⟨fun c => (h c).2, sem_eq_zero_of_no_sems (by decide) r.2⟩)
    (Cert.ReferenceIdeal.Value.run (F := Ideal) m g)
/-- The same under the precondition. -/
theorem frame_referenceIdeal_pre : Cert.quiescent_ReferenceIdeal_pre_x_is_finite (hPre_x_is_finite := preFacts) :=
  fun m g _ => frame_referenceIdeal m g trivial

/-- Each named constant is the real number its name says. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Proof

end
-- ==== Proof.Graph.lean ====
module

public import Idealize.ShloMosaic.PureOps.Ideal
public import Mathlib.Data.Fin.VecNotation
public import Mathlib.Tactic.NormNum
public import Mathlib.Tactic.Ring

@[expose] public section

noncomputable section

/-! # The mathematics both programs compute

Seventeen joints are pooled into five parts; the parts form a star whose centre is part 2. A feature of the parts is filtered
by the first three Chebyshev polynomials of the graph's Laplacian, and the three filtered features are contracted with
the weights. -/

namespace Cert.Graph

open Idealize.ShloMosaic

/-- The part a joint belongs to. -/
def part : Fin 17 → Fin 5 := ![2, 0, 0, 0, 1, 1, 1, 2, 2, 2, 2, 3, 3, 3, 4, 4, 4]

/-- The mean of a feature over the joints of each part. -/
def mean (x : Fin 17 → ℝ) : Fin 5 → ℝ :=
  ![(x 1 + x 2 + x 3) / 3, (x 4 + x 5 + x 6) / 3, (x 0 + x 7 + x 8 + x 9 + x 10) / 5, (x 11 + x 12 + x 13) / 3,
    (x 14 + x 15 + x 16) / 3]

/-- The Laplacian of the star: a limb against the centre, the centre against the four limbs. -/
def lap (f : Fin 5 → ℝ) : Fin 5 → ℝ :=
  ![(f 0 - f 2) / 2, (f 1 - f 2) / 2, (4 * f 2 - f 0 - f 1 - f 3 - f 4) / 5, (f 3 - f 2) / 2, (f 4 - f 2) / 2]

/-- The first three Chebyshev polynomials of the Laplacian, applied to a feature of the parts. -/
def cheb (f : Fin 5 → ℝ) : Fin 3 → Fin 5 → ℝ :=
  ![f, lap f, fun p => 2 * lap (lap f) p - f p]

/-- The output at one part and one output channel: the three filtered features of the pooled channels against the channel's
    weights, plus its bias. -/
def conv (x : Fin 17 → Fin 128 → ℝ) (w : Fin 3 → Fin 128 → EReal) (b : EReal) (p : Fin 5) : EReal :=
  (∑ k, ∑ c, ((cheb (mean fun j => x j c) k p : ℝ) : EReal) * w k c) + b

/-- The float patterns the programs spell, as the reals they denote: the word of 1/2. -/
theorem half : Ideal.ofBits .f32 0x3F000000#32 = ((1 / 2 : ℝ) : EReal) := by
  simp [Ideal.ofBits, Ideal.ieee, -EReal.coe_mul]; norm_num
/-- The word of −1/2. -/
theorem neg_half : Ideal.ofBits .f32 0xBF000000#32 = ((-1 / 2 : ℝ) : EReal) := by
  simp [Ideal.ofBits, Ideal.ieee, -EReal.coe_mul]; norm_num
/-- The word of 2. -/
theorem two : Ideal.ofBits .f32 0x40000000#32 = ((2 : ℝ) : EReal) := by
  simp [Ideal.ofBits, Ideal.ieee, -EReal.coe_mul]; norm_num
/-- The word of 3. -/
theorem three : Ideal.ofBits .f32 0x40400000#32 = ((3 : ℝ) : EReal) := by
  simp [Ideal.ofBits, Ideal.ieee, -EReal.coe_mul]; norm_num
/-- The word of 5. -/
theorem five : Ideal.ofBits .f32 0x40A00000#32 = ((5 : ℝ) : EReal) := by
  simp [Ideal.ofBits, Ideal.ieee, -EReal.coe_mul]; norm_num
/-- The word of +∞. -/
theorem infinity : Ideal.ofBits .f32 0x7F800000#32 = ⊤ := by
  simp [Ideal.ofBits, Ideal.ieee, -EReal.coe_mul]

end Cert.Graph
-- ==== Proof.TileValue.lean ====
module

public import proofs.«01_k».proof.Proof.Graph
public import proofs.«01_k».proof.Proof.Body
public import Idealize.ShloMosaic.Lib.Pointwise

@[expose] public section

set_option maxRecDepth 16384

noncomputable section

/-! # The tile the body stores, read at an index -/

namespace Cert.Proof

open Cert.KernelIdeal Cert.KernelIdeal.Gen Cert.Graph
open Idealize.ShloMosaic Idealize.ShloMosaic.TcCoe

/-- The named constants, as the reals they stand for: the constant 1/3. -/
theorem named_third : Named.named (F := Ideal) (φ := .f32) κ "third" 0x3EAAAAAB#32 = ((1 / 3 : ℝ) : EReal) :=
  IdealRules.named_const.ideal_named_scalar _ _ _ _ rfl
/-- The constant 1/5. -/
theorem named_fifth : Named.named (F := Ideal) (φ := .f32) κ "fifth" 0x3E4CCCCD#32 = ((1 / 5 : ℝ) : EReal) :=
  IdealRules.named_const.ideal_named_scalar _ _ _ _ rfl
/-- The constant 4/5. -/
theorem named_four_fifths : Named.named (F := Ideal) (φ := .f32) κ "four_fifths" 0x3F4CCCCD#32 = ((4 / 5 : ℝ) : EReal) :=
  IdealRules.named_const.ideal_named_scalar _ _ _ _ rfl
/-- The constant −1/5. -/
theorem named_minus_fifth : Named.named (F := Ideal) (φ := .f32) κ "minus_fifth" 0xBE4CCCCD#32 = ((-1 / 5 : ℝ) : EReal) :=
  IdealRules.named_const.ideal_named_scalar _ _ _ _ rfl

section Features
variable (r : Fin 256) (c : Fin 128)

section Means
variable (v : FVec Ideal S1x256x17x128 .f32) (x : Fin 17 → ℝ) (hv : ∀ j : Fin 17, v (ix4 0 r j c) = ((x j : ℝ) : EReal))
include hv

/-- The five means, where the block's row is finite: the mean of part 0. -/
theorem mean0_at : k0_pay4 (F := Ideal) (k0_pay2 v) k0_pay3 (ix2 r c) = ((mean x 0 : ℝ) : EReal) := by
  pointwise [k0_pay4, k0_pay2, k0_pay1, k0_pay3, hv, named_third]
  simp only [← EReal.coe_mul, ← EReal.coe_add, EReal.coe_eq_coe_iff]
  simp [mean]
  ring
/-- The mean of part 1. -/
theorem mean1_at : k0_pay5 (F := Ideal) (k0_pay1 v) (ix2 r c) = ((mean x 1 : ℝ) : EReal) := by
  pointwise [k0_pay5, k0_pay1, hv, named_third]
  simp only [← EReal.coe_mul, ← EReal.coe_add, EReal.coe_eq_coe_iff]
  simp [mean]
  ring
/-- The mean of part 2. -/
theorem mean2_at : k0_pay6 (F := Ideal) (k0_pay1 v) (ix2 r c) = ((mean x 2 : ℝ) : EReal) := by
  pointwise [k0_pay6, k0_pay1, hv, named_fifth]
  simp only [← EReal.coe_mul, ← EReal.coe_add, EReal.coe_eq_coe_iff]
  simp [mean]
  ring
/-- The mean of part 3. -/
theorem mean3_at : k0_pay7 (F := Ideal) (k0_pay1 v) (ix2 r c) = ((mean x 3 : ℝ) : EReal) := by
  pointwise [k0_pay7, k0_pay1, hv, named_third]
  simp only [← EReal.coe_mul, ← EReal.coe_add, EReal.coe_eq_coe_iff]
  simp [mean]
  ring
/-- The mean of part 4. -/
theorem mean4_at : k0_pay8 (F := Ideal) (k0_pay1 v) (ix2 r c) = ((mean x 4 : ℝ) : EReal) := by
  pointwise [k0_pay8, k0_pay1, hv, named_third]
  simp only [← EReal.coe_mul, ← EReal.coe_add, EReal.coe_eq_coe_iff]
  simp [mean]
  ring
end Means

section Filters
variable (f : Fin 5 → ℝ) (p0 p1 p2 p3 p4 : FVec Ideal S256x128 .f32)

/-- The Laplacian of a feature at part 0. -/
theorem lap0_at (a b : FVec Ideal S256x128 .f32) (v22 : FVec Ideal S17x256x128 .f32) (h0 : k0_pay4 a b (ix2 r c) = ((f 0 : ℝ) : EReal))
    (h2 : k0_pay6 v22 (ix2 r c) = ((f 2 : ℝ) : EReal)) : k0_pay9 (F := Ideal) v22 a b (ix2 r c) = ((lap f 0 : ℝ) : EReal) := by
  pointwise [k0_pay9, h0, h2, half, neg_half]
  simp only [← EReal.coe_mul, ← EReal.coe_add, EReal.coe_eq_coe_iff]
  simp [lap]
  ring
/-- The Laplacian of a feature at part 1. -/
theorem lap1_at (h1 : p1 (ix2 r c) = ((f 1 : ℝ) : EReal)) (h2 : p2 (ix2 r c) = ((f 2 : ℝ) : EReal)) :
    k0_pay11 (F := Ideal) p1 p2 k0_pay10 (ix2 r c) = ((lap f 1 : ℝ) : EReal) := by
  pointwise [k0_pay11, k0_pay10, h1, h2, half, neg_half]
  simp only [← EReal.coe_mul, ← EReal.coe_add, EReal.coe_eq_coe_iff]
  simp [lap]
  ring
/-- The Laplacian of a feature at part 2. -/
theorem lap2_at (h0 : p0 (ix2 r c) = ((f 0 : ℝ) : EReal)) (h1 : p1 (ix2 r c) = ((f 1 : ℝ) : EReal))
    (h2 : p2 (ix2 r c) = ((f 2 : ℝ) : EReal)) (h3 : p3 (ix2 r c) = ((f 3 : ℝ) : EReal)) (h4 : p4 (ix2 r c) = ((f 4 : ℝ) : EReal)) :
    k0_pay12 (F := Ideal) p0 p1 p2 p3 p4 (ix2 r c) = ((lap f 2 : ℝ) : EReal) := by
  pointwise [k0_pay12, h0, h1, h2, h3, h4, named_minus_fifth, named_four_fifths]
  simp only [← EReal.coe_mul, ← EReal.coe_add, EReal.coe_eq_coe_iff]
  simp [lap]
  ring
/-- The Laplacian of a feature at part 3. -/
theorem lap3_at (h2 : p2 (ix2 r c) = ((f 2 : ℝ) : EReal)) (h3 : p3 (ix2 r c) = ((f 3 : ℝ) : EReal)) :
    k0_pay13 (F := Ideal) p2 p3 (ix2 r c) = ((lap f 3 : ℝ) : EReal) := by
  pointwise [k0_pay13, h2, h3, half, neg_half]
  simp only [← EReal.coe_mul, ← EReal.coe_add, EReal.coe_eq_coe_iff]
  simp [lap]
  ring
/-- The Laplacian of a feature at part 4. -/
theorem lap4_at (h2 : p2 (ix2 r c) = ((f 2 : ℝ) : EReal)) (h4 : p4 (ix2 r c) = ((f 4 : ℝ) : EReal)) :
    k0_pay14 (F := Ideal) p2 p4 (ix2 r c) = ((lap f 4 : ℝ) : EReal) := by
  pointwise [k0_pay14, h2, h4, half, neg_half]
  simp only [← EReal.coe_mul, ← EReal.coe_add, EReal.coe_eq_coe_iff]
  simp [lap]
  ring

/-- The Laplacian's second application at part 0, where the first is `y`. -/
theorem twice0_at (y : FVec Ideal S256x128 .f32) (hy : y (ix2 r c) = ((lap f 0 : ℝ) : EReal))
    (h2 : k0_pay12 p0 p1 p2 p3 p4 (ix2 r c) = ((lap f 2 : ℝ) : EReal)) :
    k0_pay15 (F := Ideal) p0 p1 p2 p3 p4 y (ix2 r c) = ((lap (lap f) 0 : ℝ) : EReal) := by
  pointwise [k0_pay15, hy, h2, half, neg_half]
  simp only [← EReal.coe_mul, ← EReal.coe_add, EReal.coe_eq_coe_iff]
  rw [show lap (lap f) 0 = (lap f 0 - lap f 2) / 2 from rfl]
  ring
/-- The same at part 1. -/
theorem twice1_at (h : FVec Ideal S256x128 .f32) (h1 : k0_pay11 p1 p2 h (ix2 r c) = ((lap f 1 : ℝ) : EReal))
    (h2 : k0_pay12 p0 p1 p2 p3 p4 (ix2 r c) = ((lap f 2 : ℝ) : EReal)) :
    k0_pay16 (F := Ideal) p0 p1 p2 p3 p4 h (ix2 r c) = ((lap (lap f) 1 : ℝ) : EReal) := by
  pointwise [k0_pay16, h1, h2, half, neg_half]
  simp only [← EReal.coe_mul, ← EReal.coe_add, EReal.coe_eq_coe_iff]
  rw [show lap (lap f) 1 = (lap f 1 - lap f 2) / 2 from rfl]
  ring

/-- The second Chebyshev polynomial at part 2, where the Laplacian of the feature is `y`. -/
theorem cheb2_at (h y0 y2 y3 y4 : FVec Ideal S256x128 .f32) (hp : p2 (ix2 r c) = ((f 2 : ℝ) : EReal))
    (h0 : y0 (ix2 r c) = ((lap f 0 : ℝ) : EReal)) (h1 : k0_pay11 p1 p2 h (ix2 r c) = ((lap f 1 : ℝ) : EReal))
    (h2 : y2 (ix2 r c) = ((lap f 2 : ℝ) : EReal)) (h3 : y3 (ix2 r c) = ((lap f 3 : ℝ) : EReal)) (h4 : y4 (ix2 r c) = ((lap f 4 : ℝ) : EReal)) :
    k0_pay18 (F := Ideal) p2 y2 y3 y4 (k0_pay17 p1 p2 y0 h) (Named.named κ "four_fifths" 0x3F4CCCCD#32) (ix2 r c)
      = ((cheb f 2 2 : ℝ) : EReal) := by
  pointwise [k0_pay18, k0_pay17, hp, h0, h1, h2, h3, h4, two, named_minus_fifth, named_four_fifths]
  simp only [← EReal.coe_mul, ← EReal.coe_add, ← EReal.coe_sub, EReal.coe_eq_coe_iff]
  rw [show cheb f 2 2 = 2 * ((4 * lap f 2 - lap f 0 - lap f 1 - lap f 3 - lap f 4) / 5) - f 2 from rfl]
  ring
/-- The same at part 3. -/
theorem cheb3_at (y2 y3 : FVec Ideal S256x128 .f32) (hp : p3 (ix2 r c) = ((f 3 : ℝ) : EReal))
    (h2 : y2 (ix2 r c) = ((lap f 2 : ℝ) : EReal)) (h3 : y3 (ix2 r c) = ((lap f 3 : ℝ) : EReal)) :
    k0_pay19 (F := Ideal) p3 y2 y3 (ix2 r c) = ((cheb f 2 3 : ℝ) : EReal) := by
  pointwise [k0_pay19, hp, h2, h3, two, half, neg_half]
  simp only [← EReal.coe_mul, ← EReal.coe_add, ← EReal.coe_sub, EReal.coe_eq_coe_iff]
  rw [show cheb f 2 3 = 2 * ((lap f 3 - lap f 2) / 2) - f 3 from rfl]
  ring
/-- The same at part 4. -/
theorem cheb4_at (y2 y4 : FVec Ideal S256x128 .f32) (hp : p4 (ix2 r c) = ((f 4 : ℝ) : EReal))
    (h2 : y2 (ix2 r c) = ((lap f 2 : ℝ) : EReal)) (h4 : y4 (ix2 r c) = ((lap f 4 : ℝ) : EReal)) :
    k0_pay20 (F := Ideal) p4 y2 y4 (ix2 r c) = ((cheb f 2 4 : ℝ) : EReal) := by
  pointwise [k0_pay20, hp, h2, h4, two, half, neg_half]
  simp only [← EReal.coe_mul, ← EReal.coe_add, ← EReal.coe_sub, EReal.coe_eq_coe_iff]
  rw [show cheb f 2 4 = 2 * ((lap f 4 - lap f 2) / 2) - f 4 from rfl]
  ring

end Filters
end Features

section Rows

/-- A sum over three blocks of 128 rows laid one after another, block by block. -/
theorem sum_blocks (P Y Q : Fin 128 → EReal) (g : Fin 384 → EReal) :
    (∑ k : Fin 384, (if h : k.val < 128 then P ⟨k.val, h⟩ else if h' : k.val - 128 < 128 then Y ⟨k.val - 128, h'⟩
        else Q ⟨k.val - 128 - 128, by omega⟩) * g k)
      = ∑ k : Fin 3, ∑ c : Fin 128, (![P, Y, Q] k c) * g ⟨k.val * 128 + c.val, by omega⟩ := by
  rw [Fin.sum_univ_tiles 3 128 rfl]
  refine Finset.sum_congr rfl fun k _ => Finset.sum_congr rfl fun c _ => congrArg (· * _) ?_
  have hc := c.isLt
  match k with
  | 0 => rw [dif_pos (by simp)]; exact congrArg P (Fin.ext (by simp))
  | 1 => rw [dif_neg (by simp), dif_pos (by simp)]; exact congrArg Y (Fin.ext (by simp))
  | 2 => rw [dif_neg (by simp; omega), dif_neg (by simp; omega)]; exact congrArg Q (Fin.ext (by simp; omega))

variable (r : Fin 256) (l : Fin 128) (x : Fin 17 → Fin 128 → ℝ) (bias : FVec Ideal S1x128 .f32) (w : FVec Ideal S384x128 .f32)

/-- The weights of output channel `l`, by polynomial and input channel. -/
def weights (k : Fin 3) (c : Fin 128) : EReal := w (ix2 ⟨k.val * 128 + c.val, by omega⟩ l)

/-- Three filtered features against the weights are the output's row. -/
theorem row_conv (s : Fin 5) (P Y Q : Fin 128 → EReal) (hp : ∀ c, P c = ((cheb (mean fun j => x j c) 0 s : ℝ) : EReal))
    (hy : ∀ c, Y c = ((cheb (mean fun j => x j c) 1 s : ℝ) : EReal)) (hq : ∀ c, Q c = ((cheb (mean fun j => x j c) 2 s : ℝ) : EReal)) :
    (∑ k : Fin 384, (if h : k.val < 128 then P ⟨k.val, h⟩ else if h' : k.val - 128 < 128 then Y ⟨k.val - 128, h'⟩
        else Q ⟨k.val - 128 - 128, by omega⟩) * w (ix2 k l)) + bias (ix2 0 l) = conv x (weights l w) (bias (ix2 0 l)) s := by
  refine congrArg (· + _) ((sum_blocks P Y Q fun k => w (ix2 k l)).trans ?_)
  refine Finset.sum_congr rfl fun k _ => Finset.sum_congr rfl fun c _ => congrArg (· * _) ?_
  match k with
  | 0 => exact hp c
  | 1 => exact hy c
  | 2 => exact hq c

/-- Twice the Laplacian's second application less the feature is the second Chebyshev polynomial. -/
theorem cheb_of_twice (f : Fin 5 → ℝ) (s : Fin 5) : Ideal.ofBits .f32 0x40000000#32 * ((lap (lap f) s : ℝ) : EReal) - ((f s : ℝ) : EReal) = ((cheb f 2 s : ℝ) : EReal) := by
  rw [two, ← EReal.coe_mul, ← EReal.coe_sub]
  rfl

/-- The body's tile, on a finite row of its block, is the output's mathematics at each joint's part. -/
theorem tile_at (v : FVec Ideal S1x256x17x128 .f32) (hv : ∀ (j : Fin 17) (c : Fin 128), v (ix4 0 r j c) = ((x j c : ℝ) : EReal)) (j : Fin 17) :
    tile (F := Ideal) v bias w (ix4 0 r j l) = conv x (weights l w) (bias (ix2 0 l)) (part j) := by
  have m0 := fun c : Fin 128 => mean0_at r c v (fun j => x j c) (fun j => hv j c)
  have m1 := fun c : Fin 128 => mean1_at r c v (fun j => x j c) (fun j => hv j c)
  have m2 := fun c : Fin 128 => mean2_at r c v (fun j => x j c) (fun j => hv j c)
  have m3 := fun c : Fin 128 => mean3_at r c v (fun j => x j c) (fun j => hv j c)
  have m4 := fun c : Fin 128 => mean4_at r c v (fun j => x j c) (fun j => hv j c)
  have y0 := fun c : Fin 128 => lap0_at r c _ _ _ _ (m0 c) (m2 c)
  have y1 := fun c : Fin 128 => lap1_at r c _ _ _ (m1 c) (m2 c)
  have y2 := fun c : Fin 128 => lap2_at r c _ _ _ _ _ _ (m0 c) (m1 c) (m2 c) (m3 c) (m4 c)
  have y3 := fun c : Fin 128 => lap3_at r c _ _ _ (m2 c) (m3 c)
  have y4 := fun c : Fin 128 => lap4_at r c _ _ _ (m2 c) (m4 c)
  have z0 := fun c : Fin 128 => twice0_at r c _ _ _ _ _ _ _ (y0 c) (y2 c)
  have z1 := fun c : Fin 128 => twice1_at r c _ _ _ _ _ _ _ (y1 c) (y2 c)
  have z2 := fun c : Fin 128 => cheb2_at r c _ _ _ _ _ _ _ _ (m2 c) (y0 c) (y1 c) (y2 c) (y3 c) (y4 c)
  have z3 := fun c : Fin 128 => cheb3_at r c _ _ _ _ (m3 c) (y2 c) (y3 c)
  have z4 := fun c : Fin 128 => cheb4_at r c _ _ _ _ (m4 c) (y2 c) (y4 c)
  have r0 := row_conv l x bias w 0 _ _ _ m0 y0 fun c => (congrArg₂ (· - ·) (congrArg (_ * ·) (z0 c)) (m0 c)).trans (cheb_of_twice _ _)
  have r1 := row_conv l x bias w 1 _ _ _ m1 y1 fun c => (congrArg₂ (· - ·) (congrArg (_ * ·) (z1 c)) (m1 c)).trans (cheb_of_twice _ _)
  have r2 := row_conv l x bias w 2 _ _ _ m2 y2 z2
  have r3 := row_conv l x bias w 3 _ _ _ m3 y3 z3
  have r4 := row_conv l x bias w 4 _ _ _ m4 y4 z4
  have at_joint : ∀ i : Fin 17, j.val = i.val → conv x (weights l w) (bias (ix2 0 l)) (part i) = conv x (weights l w) (bias (ix2 0 l)) (part j) :=
    fun i h => congrArg (fun i => conv x (weights l w) (bias (ix2 0 l)) (part i)) (Fin.ext h).symm
  unfold tile
  pointwise [k0_pay25, k0_pay24, k0_pay23, k0_pay22, k0_pay21]
  fin_vals j with hk
  all_goals simp only [hk, Nat.reduceSub, Nat.reduceLT, ↓reduceDIte]
  exacts [r2.trans (at_joint 0 hk), r0.trans (at_joint 1 hk), r0.trans (at_joint 2 hk), r0.trans (at_joint 3 hk),
    r1.trans (at_joint 4 hk), r1.trans (at_joint 5 hk), r1.trans (at_joint 6 hk), r2.trans (at_joint 7 hk),
    r2.trans (at_joint 8 hk), r2.trans (at_joint 9 hk), r2.trans (at_joint 10 hk), r3.trans (at_joint 11 hk),
    r3.trans (at_joint 12 hk), r3.trans (at_joint 13 hk), r4.trans (at_joint 14 hk), r4.trans (at_joint 15 hk), r4.trans (at_joint 16 hk)]
end Rows
end Cert.Proof
-- ==== Proof.Take.lean ====
module

public import Idealize.ShloMosaic.Lib.Pointwise

@[expose] public section

noncomputable section

/-! # A gather along the middle axis, read at an index -/

namespace Cert.Take

open Idealize.ShloMosaic

variable {α : Type}

/-- The dimension numbers of `x[:, idx, :]` for an operand `[N, J, C]` and start indices `[K, 1]`. -/
abbrev midDims (N J K C : ℕ) (wf : GatherDims.WF ⟨3, ![N, J, C]⟩ ⟨2, ![K, 1]⟩ ⟨3, ![N, K, C]⟩ [0, 2] [1] [] [1] [] 1 ![N, 1, C]) :
    GatherDims ⟨3, ![N, J, C]⟩ ⟨2, ![K, 1]⟩ ⟨3, ![N, K, C]⟩ where
  offsetDims := [0, 2]
  collapsedSliceDims := [1]
  operandBatchingDims := []
  startIndicesBatchingDims := []
  startIndexMap := [1]
  indexVectorDim := 1
  sliceSizes := ![N, 1, C]
  wf := wf

/-- Where the index array names entry `j` of the middle axis, the gather reads that entry. -/
theorem gather_mid_apply {N J K C : ℕ} (wf : GatherDims.WF ⟨3, ![N, J, C]⟩ ⟨2, ![K, 1]⟩ ⟨3, ![N, K, C]⟩ [0, 2] [1] [] [1] [] 1 ![N, 1, C])
    (x : (⟨3, ![N, J, C]⟩ : Shape).Idx → α) (idx : IVec ⟨2, ![K, 1]⟩ 32) (n : Fin N) (k : Fin K) (c : Fin C) (j : Fin J)
    (hj : (idx (ix2 k 0)).toInt.toNat = j.val) :
    Host.gather (midDims N J K C wf) x idx (ix3 n k c) = x (ix3 n j c) := by
  unfold Host.gather
  refine congrArg x (funext fun a => Fin.ext ?_)
  show (midDims N J K C wf).start (ix3 n k c) idx a + (midDims N J K C wf).batchCoord (ix3 n k c) a
      + (midDims N J K C wf).offCoord (ix3 n k c) a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · unfold GatherDims.start GatherDims.offCoord
    rw [dif_neg (by simp), dif_pos ((GatherDims.mem_sKept _ _).2 ⟨by simp, List.not_mem_nil⟩), Nat.zero_add]
    rfl
  · rw [GatherDims.offCoord_eq_zero _ _ _ (fun h => ((GatherDims.mem_sKept _ _).1 h).1 (List.mem_singleton.2 rfl)), Nat.add_zero]
    unfold GatherDims.start
    rw [dif_pos (show (1 : Fin 3) ∈ (midDims N J K C wf).startIndexMap from List.mem_singleton.2 rfl)]
    have hsi : (midDims N J K C wf).siIdx (ix3 n k c) ⟨List.idxOf (1 : Fin 3) (midDims N J K C wf).startIndexMap,
        List.idxOf_lt_length_iff.2 (List.mem_singleton.2 rfl)⟩ = ix2 k (0 : Fin 1) := by
      funext b; refine Fin.ext ?_
      match b with
      | ⟨0, _⟩ => rfl
      | ⟨1, _⟩ => rfl
    have hjl := j.isLt
    rw [hsi, hj]
    show min j.val (J - 1) = j.val
    omega
  · unfold GatherDims.start GatherDims.offCoord
    rw [dif_neg (by simp), dif_pos ((GatherDims.mem_sKept _ _).2 ⟨by simp, List.not_mem_nil⟩), Nat.zero_add]
    rfl

end Cert.Take
-- ==== Proof.Pool.lean ====
module

public import proofs.«01_k».proof.Proof.Graph
public import proofs.«01_k».proof.Proof.Take
public import proofs.«01_k».proof.Proof.Gen.ReferenceIdeal
public import Idealize.ShloMosaic.Lib.Pointwise

@[expose] public section

set_option maxRecDepth 16384

noncomputable section

/-! # The reference's pooling, read at an index -/

namespace Cert.Reference

open Cert.ReferenceIdeal Cert.ReferenceIdeal.Gen Cert.Graph
open Idealize.ShloMosaic Idealize.ShloMosaic.TcCoe

/-- A list of three joints as start indices, negative ones counted from the end. -/
def joints3 (js : Fin 3 → BitVec 32) : IVec S3x1 32 :=
  broadcastInDim S3x1 ![0] bcast_S3_S3x1_0 (select (cmpi .slt (fun i => js (S3.rowMajor i)) (broadcastInDim S3 ![] bcast_S_S3 (constantI S_ 32 0#32)))
    (addi (fun i => js (S3.rowMajor i)) (broadcastInDim S3 ![] bcast_S_S3 (constantI S_ 32 17#32))) (fun i => js (S3.rowMajor i)))
/-- A list of five joints as start indices. -/
def joints5 (js : Fin 5 → BitVec 32) : IVec S5x1 32 :=
  broadcastInDim S5x1 ![0] bcast_S5_S5x1_0 (select (cmpi .slt (fun i => js (S5.rowMajor i)) (broadcastInDim S5 ![] bcast_S_S5 (constantI S_ 32 0#32)))
    (addi (fun i => js (S5.rowMajor i)) (broadcastInDim S5 ![] bcast_S_S5 (constantI S_ 32 17#32))) (fun i => js (S5.rowMajor i)))
/-- The part of each joint as start indices. -/
def parts : IVec S17x1 32 :=
  broadcastInDim S17x1 ![0] bcast_S17_S17x1_0 (select (cmpi .slt (fun i => lit6 (S17.rowMajor i)) (broadcastInDim S17 ![] bcast_S_S17 (constantI S_ 32 0#32)))
    (addi (fun i => lit6 (S17.rowMajor i)) (broadcastInDim S17 ![] bcast_S_S17 (constantI S_ 32 5#32))) (fun i => lit6 (S17.rowMajor i)))

/-- A small word is not negative: it is its own start index. -/
theorem wrap_17 (j : Fin 17) : (Scalar.select (IntOp.cmpi .slt (BitVec.ofNat 32 j.val) 0#32) (IntOp.addi (BitVec.ofNat 32 j.val) 17#32) (BitVec.ofNat 32 j.val)).toInt.toNat = j.val := by
  revert j
  decide
/-- The same of a part's word. -/
theorem wrap_5 (p : Fin 5) : (Scalar.select (IntOp.cmpi .slt (BitVec.ofNat 32 p.val) 0#32) (IntOp.addi (BitVec.ofNat 32 p.val) 5#32) (BitVec.ofNat 32 p.val)).toInt.toNat = p.val := by
  revert p
  decide

/-- The start indices of three joints name them. -/
theorem joints3_at (js : Fin 3 → BitVec 32) (j : Fin 3 → Fin 17) (h : ∀ k, js k = BitVec.ofNat 32 (j k).val) (k : Fin 3) :
    (joints3 js (ix2 k 0)).toInt.toNat = (j k).val := by
  pointwise [joints3]
  rw [show js (S3.rowMajor (ix1 k)) = BitVec.ofNat 32 (j k).val from (congrArg js (by fin_cases k <;> rfl)).trans (h k)]
  exact wrap_17 (j k)
/-- The start indices of five joints name them. -/
theorem joints5_at (js : Fin 5 → BitVec 32) (j : Fin 5 → Fin 17) (h : ∀ k, js k = BitVec.ofNat 32 (j k).val) (k : Fin 5) :
    (joints5 js (ix2 k 0)).toInt.toNat = (j k).val := by
  pointwise [joints5]
  rw [show js (S5.rowMajor (ix1 k)) = BitVec.ofNat 32 (j k).val from (congrArg js (by fin_cases k <;> rfl)).trans (h k)]
  exact wrap_17 (j k)
/-- The start indices of the parts name each joint's part. -/
theorem parts_at (j : Fin 17) : (parts (ix2 j 0)).toInt.toNat = (part j).val := by
  pointwise [parts]
  rw [show lit6 (S17.rowMajor (ix1 j)) = BitVec.ofNat 32 (part j).val from by fin_cases j <;> rfl]
  exact wrap_5 (part j)

/-- The mean over three joints. -/
def pool3 (x : FVec Ideal S16384x17x128 .f32) (js : Fin 3 → BitVec 32) : FVec Ideal S16384x128 .f32 :=
  Host.divf (Host.reduceAdd (Host.gather gather_S16384x17x128_S3x1_S16384x3x128_02_1_n_n_1_1_163841128 x (joints3 js)) (constant S_ .f32 0x00000000#32) reducesTo_S16384x3x128_S16384x128_d1 h_S_)
    (broadcastInDim S16384x128 ![] bcast_S_S16384x128 (constant S_ .f32 0x40400000#32))
/-- The mean over five joints. -/
def pool5 (x : FVec Ideal S16384x17x128 .f32) (js : Fin 5 → BitVec 32) : FVec Ideal S16384x128 .f32 :=
  Host.divf (Host.reduceAdd (Host.gather gather_S16384x17x128_S5x1_S16384x5x128_02_1_n_n_1_1_163841128 x (joints5 js)) (constant S_ .f32 0x00000000#32) reducesTo_S16384x5x128_S16384x128_d1 h_S_)
    (broadcastInDim S16384x128 ![] bcast_S_S16384x128 (constant S_ .f32 0x40A00000#32))

/-- A quotient of reals by a nonzero real is the real quotient. -/
theorem div_real (a b : ℝ) (hb : b ≠ 0) : Ideal.div ((a : ℝ) : EReal) ((b : ℝ) : EReal) = ((a / b : ℝ) : EReal) := by
  rw [Ideal.div_coe hb, ← EReal.coe_mul, mul_one_div]

/-- The mean over three joints, where the joints of the row are finite. -/
theorem pool3_at (x : FVec Ideal S16384x17x128 .f32) (js : Fin 3 → BitVec 32) (j : Fin 3 → Fin 17) (h : ∀ k, js k = BitVec.ofNat 32 (j k).val)
    (n : Fin 16384) (c : Fin 128) (r : Fin 17 → ℝ) (hx : ∀ j : Fin 17, x (ix3 n j c) = ((r j : ℝ) : EReal)) :
    pool3 x js (ix2 n c) = (((r (j 0) + r (j 1) + r (j 2)) / 3 : ℝ) : EReal) := by
  pointwise [pool3, three]
  have hg : ∀ k : Fin 3, Host.gather gather_S16384x17x128_S3x1_S16384x3x128_02_1_n_n_1_1_163841128 x (joints3 js) (ix3 n k c) = ((r (j k) : ℝ) : EReal) :=
    fun k => (Take.gather_mid_apply _ x (joints3 js) n k c (j k) (joints3_at js j h k)).trans (hx (j k))
  rw [Finset.sum_congr rfl fun k _ => hg k, Fin.sum_univ_three, ← EReal.coe_add, ← EReal.coe_add]
  exact div_real _ _ (by norm_num)
/-- The mean over five joints, where the joints of the row are finite. -/
theorem pool5_at (x : FVec Ideal S16384x17x128 .f32) (js : Fin 5 → BitVec 32) (j : Fin 5 → Fin 17) (h : ∀ k, js k = BitVec.ofNat 32 (j k).val)
    (n : Fin 16384) (c : Fin 128) (r : Fin 17 → ℝ) (hx : ∀ j : Fin 17, x (ix3 n j c) = ((r j : ℝ) : EReal)) :
    pool5 x js (ix2 n c) = (((r (j 0) + r (j 1) + r (j 2) + r (j 3) + r (j 4)) / 5 : ℝ) : EReal) := by
  pointwise [pool5, five]
  have hg : ∀ k : Fin 5, Host.gather gather_S16384x17x128_S5x1_S16384x5x128_02_1_n_n_1_1_163841128 x (joints5 js) (ix3 n k c) = ((r (j k) : ℝ) : EReal) :=
    fun k => (Take.gather_mid_apply _ x (joints5 js) n k c (j k) (joints5_at js j h k)).trans (hx (j k))
  rw [Finset.sum_congr rfl fun k _ => hg k, Fin.sum_univ_five, ← EReal.coe_add, ← EReal.coe_add, ← EReal.coe_add, ← EReal.coe_add]
  exact div_real _ _ (by norm_num)

/-- The five pooled features, stacked. -/
def pooled (x : FVec Ideal S16384x17x128 .f32) : FVec Ideal S16384x5x128 .f32 :=
  concatenate S16384x5x128 1
    [⟨S16384x1x128, broadcastInDim S16384x1x128 ![0, 2] bcast_S16384x128_S16384x1x128_0_2 (pool3 x lit0)⟩,
      ⟨S16384x1x128, broadcastInDim S16384x1x128 ![0, 2] bcast_S16384x128_S16384x1x128_0_2 (pool3 x lit1)⟩,
      ⟨S16384x1x128, broadcastInDim S16384x1x128 ![0, 2] bcast_S16384x128_S16384x1x128_0_2 (pool5 x lit2)⟩,
      ⟨S16384x1x128, broadcastInDim S16384x1x128 ![0, 2] bcast_S16384x128_S16384x1x128_0_2 (pool3 x lit3)⟩,
      ⟨S16384x1x128, broadcastInDim S16384x1x128 ![0, 2] bcast_S16384x128_S16384x1x128_0_2 (pool3 x lit4)⟩]
    concatenates_S16384x1x128_S16384x1x128_S16384x1x128_S16384x1x128_S16384x1x128_S16384x5x128_d1

/-- The stacked features are the means of the joints of each part. -/
theorem pooled_at (x : FVec Ideal S16384x17x128 .f32) (n : Fin 16384) (c : Fin 128) (r : Fin 17 → ℝ)
    (hx : ∀ j : Fin 17, x (ix3 n j c) = ((r j : ℝ) : EReal)) (p : Fin 5) : pooled x (ix3 n p c) = ((mean r p : ℝ) : EReal) := by
  have h0 := pool3_at x lit0 ![1, 2, 3] (by decide) n c r hx
  have h1 := pool3_at x lit1 ![4, 5, 6] (by decide) n c r hx
  have h2 := pool5_at x lit2 ![0, 7, 8, 9, 10] (by decide) n c r hx
  have h3 := pool3_at x lit3 ![11, 12, 13] (by decide) n c r hx
  have h4 := pool3_at x lit4 ![14, 15, 16] (by decide) n c r hx
  pointwise [pooled]
  fin_vals p with hk
  all_goals simp only [hk, Nat.reduceSub, Nat.reduceLT, ↓reduceDIte]
  · exact h0.trans (congrArg (fun p => ((mean r p : ℝ) : EReal)) (Fin.ext hk : p = 0).symm)
  · exact h1.trans (congrArg (fun p => ((mean r p : ℝ) : EReal)) (Fin.ext hk : p = 1).symm)
  · exact h2.trans (congrArg (fun p => ((mean r p : ℝ) : EReal)) (Fin.ext hk : p = 2).symm)
  · exact h3.trans (congrArg (fun p => ((mean r p : ℝ) : EReal)) (Fin.ext hk : p = 3).symm)
  · exact h4.trans (congrArg (fun p => ((mean r p : ℝ) : EReal)) (Fin.ext hk : p = 4).symm)

end Cert.Reference
-- ==== Proof.Matrices.lean ====
module

public import proofs.«01_k».proof.Proof.Pool

@[expose] public section

set_option maxRecDepth 16384

noncomputable section

/-! # The reference's graph matrices, read at an index -/

namespace Cert.Reference

open Cert.ReferenceIdeal Cert.ReferenceIdeal.Gen Cert.Graph
open Idealize.ShloMosaic Idealize.ShloMosaic.TcCoe

/-- Whether a position is on the diagonal. -/
def diagonal : IVec S5x5 1 :=
  cmpi .eq (addi (iotaInDim S5x5 32 0) (broadcastInDim S5x5 ![] bcast_S_S5x5 (constantI S_ 32 0#32))) (iotaInDim S5x5 32 1)
/-- The identity. -/
def eye : FVec Ideal S5x5 .f32 := uitofp .f32 diagonal
/-- The star with a loop at every part. -/
def star : FVec Ideal S5x5 .f32 := fun i => FloatOps.ofBits .f32 (lit5 (S5x5.rowMajor i))
/-- The star, each row divided by its sum. -/
def adjacency : FVec Ideal S5x5 .f32 :=
  Host.divf star (broadcastInDim S5x5 ![0, 1] bcast_S5x1_S5x5_0_1 (broadcastInDim S5x1 ![0] bcast_S5_S5x1_0
    (Host.reduceAdd star (constant S_ .f32 0x00000000#32) reducesTo_S5x5_S5_d1 h_S_)))
/-- The degrees to the power minus one half, on the diagonal. -/
def scaling : FVec Ideal S5x5 .f32 :=
  select diagonal (broadcastInDim S5x5 ![0, 1] bcast_S5x1_S5x5_0_1 (broadcastInDim S5x1 ![0] bcast_S5_S5x1_0 (pad S5 ![0] ![0] ![0]
      (Host.powf (Host.reduceAdd adjacency (constant S_ .f32 0x00000000#32) reducesTo_S5x5_S5_d1 h_S_) (broadcastInDim S5 ![] bcast_S_S5 (constant S_ .f32 0xBF000000#32)))
      (constant S_ .f32 0x00000000#32) pads_S5_S5_000 h_S_)))
    (broadcastInDim S5x5 ![] bcast_S_S5x5 (constant S_ .f32 0x00000000#32))
/-- The Laplacian. -/
def laplacian : FVec Ideal S5x5 .f32 :=
  subf eye (Host.dotGeneral dot_S5x5_S5x5_S5x5_1_0_0_1_n_n none (Host.dotGeneral dot_S5x5_S5x5_S5x5_1_0_0_1_n_n none scaling adjacency) scaling)
/-- The second Chebyshev polynomial of the Laplacian. -/
def second : FVec Ideal S5x5 .f32 :=
  subf (mulf (broadcastInDim S5x5 ![] bcast_S_S5x5 (constant S_ .f32 0x40000000#32)) (Host.dotGeneral dot_S5x5_S5x5_S5x5_1_0_0_1_n_n none laplacian laplacian)) eye

/-- The identity's entries, as reals. -/
def eyeR (p q : Fin 5) : ℝ := if p = q then 1 else 0
/-- The star's entries: a part meets itself and the torso, and the torso meets all. -/
def starR (p q : Fin 5) : ℝ := if p = q ∨ p = 2 ∨ q = 2 then 1 else 0
/-- The star's row sums. -/
def sizeR : Fin 5 → ℝ := ![2, 2, 5, 2, 2]
/-- The Laplacian's entries. -/
def lapR (p q : Fin 5) : ℝ := eyeR p q - starR p q / sizeR p

/-- A row's entries sum to the row sum. -/
theorem sum_star (p : Fin 5) : ∑ q, starR p q = sizeR p := by
  rw [Fin.sum_univ_five]
  fin_cases p <;> simp [starR, sizeR] <;> norm_num
/-- No row sum is zero. -/
theorem size_ne (p : Fin 5) : sizeR p ≠ 0 := by
  fin_cases p <;> simp [sizeR]
/-- The identity picks the entry it stands against. -/
theorem sum_eye_left (p : Fin 5) (g : Fin 5 → ℝ) : ∑ s, eyeR p s * g s = g p := by simp [eyeR]
/-- The identity on the right picks the same. -/
theorem sum_eye_right (q : Fin 5) (g : Fin 5 → ℝ) : ∑ s, g s * eyeR s q = g q := by simp [eyeR]

/-- A sum of five reals is the real sum. -/
theorem sum_real (g : Fin 5 → ℝ) : ∑ s, ((g s : ℝ) : EReal) = ((∑ s, g s : ℝ) : EReal) := by
  simp only [Fin.sum_univ_five, EReal.coe_add]

/-- The diagonal's bit. -/
theorem bit_at (p q : Fin 5) : IntOp.cmpi .eq (IntOp.addi (BitVec.ofNat 32 p.val) 0#32) (BitVec.ofNat 32 q.val) = if p = q then 1#1 else 0#1 := by
  revert p q
  decide

/-- The identity's entries. -/
theorem eye_at (p q : Fin 5) : eye (ix2 p q) = ((eyeR p q : ℝ) : EReal) := by
  pointwise [eye, diagonal, bit_at]
  by_cases h : p = q
  · rw [if_pos h, eyeR, if_pos h]
    show (((1 : ℕ) : ℝ) : EReal) = _
    simp
  · rw [if_neg h, eyeR, if_neg h]
    show (((0 : ℕ) : ℝ) : EReal) = _
    simp
/-- The word of the star's literal at each place. -/
theorem lit_at (p q : Fin 5) : lit5 (S5x5.rowMajor (ix2 p q)) = if p = q ∨ p = 2 ∨ q = 2 then 0x3F800000#32 else 0x00000000#32 := by
  fin_cases p <;> fin_cases q <;> rfl
/-- The star's entries. -/
theorem star_at (p q : Fin 5) : star (ix2 p q) = ((starR p q : ℝ) : EReal) := by
  pointwise [star]
  rw [lit_at, starR]
  split <;> pointwise <;> simp
/-- The adjacency's entries: the star's divided by the row sum. -/
theorem adjacency_at (p q : Fin 5) : adjacency (ix2 p q) = ((starR p q / sizeR p : ℝ) : EReal) := by
  pointwise [adjacency, star_at]
  rw [sum_real, sum_star]
  exact div_real _ _ (size_ne p)
/-- The scaling is the identity, since the adjacency's rows sum to 1. -/
theorem scaling_at (p q : Fin 5) : scaling (ix2 p q) = ((eyeR p q : ℝ) : EReal) := by
  pointwise [scaling, diagonal, adjacency_at, bit_at, neg_half]
  rw [sum_real, ← Finset.sum_div, sum_star, div_self (size_ne p)]
  by_cases h : p = q
  · rw [if_pos h, eyeR, if_pos h]
    show ((Real.rpow 1 (-1 / 2) : ℝ) : EReal) = _
    exact congrArg Real.toEReal (Real.one_rpow _)
  · rw [if_neg h, eyeR, if_neg h]
    rfl
/-- The Laplacian's entries. -/
theorem laplacian_at (p q : Fin 5) : laplacian (ix2 p q) = ((lapR p q : ℝ) : EReal) := by
  pointwise [laplacian, scaling_at, adjacency_at, eye_at]
  simp only [← EReal.coe_mul, sum_real, ← EReal.coe_sub, sum_eye_left, sum_eye_right]
  rfl
/-- The entries of the second Chebyshev polynomial. -/
theorem second_at (p q : Fin 5) : second (ix2 p q) = ((2 * (∑ s, lapR p s * lapR s q) - eyeR p q : ℝ) : EReal) := by
  pointwise [second, laplacian_at, eye_at, two]
  simp only [← EReal.coe_mul, sum_real, ← EReal.coe_sub]

/-- The Laplacian's matrix applies the Laplacian. -/
theorem sum_lap (f : Fin 5 → ℝ) (p : Fin 5) : ∑ q, lapR p q * f q = lap f p := by
  fin_cases p <;> simp [Fin.sum_univ_five, lapR, eyeR, starR, sizeR, lap] <;> ring

/-- The three polynomials' matrices. -/
def chebR : Fin 3 → Fin 5 → Fin 5 → ℝ := ![eyeR, lapR, fun p q => 2 * (∑ s, lapR p s * lapR s q) - eyeR p q]
/-- They apply the three polynomials. -/
theorem sum_cheb (f : Fin 5 → ℝ) (k : Fin 3) (p : Fin 5) : ∑ q, chebR k p q * f q = cheb f k p := by
  match k with
  | 0 => exact sum_eye_left p f
  | 1 => exact sum_lap f p
  | 2 =>
    show ∑ q, (2 * (∑ s, lapR p s * lapR s q) - eyeR p q) * f q = 2 * lap (lap f) p - f p
    simp only [sub_mul, Finset.sum_sub_distrib, sum_eye_left, mul_assoc, ← Finset.mul_sum, Finset.sum_mul]
    rw [Finset.sum_comm]
    simp only [← Finset.mul_sum, sum_lap]

/-- The three matrices, stacked. -/
def stacked : FVec Ideal S3x5x5 .f32 :=
  concatenate S3x5x5 0 [⟨S1x5x5, broadcastInDim S1x5x5 ![1, 2] bcast_S5x5_S1x5x5_1_2 eye⟩,
    ⟨S1x5x5, broadcastInDim S1x5x5 ![1, 2] bcast_S5x5_S1x5x5_1_2 laplacian⟩,
    ⟨S1x5x5, broadcastInDim S1x5x5 ![1, 2] bcast_S5x5_S1x5x5_1_2 second⟩] concatenates_S1x5x5_S1x5x5_S1x5x5_S3x5x5_d0
/-- The stack's entries. -/
theorem stacked_at (k : Fin 3) (p q : Fin 5) : stacked (ix3 k p q) = ((chebR k p q : ℝ) : EReal) := by
  pointwise [stacked, eye_at, laplacian_at, second_at]
  fin_vals k with hk
  all_goals simp only [hk, Nat.reduceSub, Nat.reduceLT, ↓reduceDIte]
  · rw [show k = 0 from Fin.ext hk]; rfl
  · rw [show k = 1 from Fin.ext hk]; rfl
  · rw [show k = 2 from Fin.ext hk]; rfl

/-- The features of the parts after the filters, the contraction with the weights and the bias. -/
def filtered (x : FVec Ideal S16384x17x128 .f32) (w : FVec Ideal S3x1x128x128 .f32) (b : FVec Ideal S1x1x128 .f32) : FVec Ideal S16384x5x128 .f32 :=
  addf (Host.reduceAdd (Host.dotGeneral dot_S3x16384x5x128_S3x128x128_S3x16384x5x128_3_1_12_2_0_0 none
      (transpose S3x16384x5x128 [0, 2, 1, 3] (Host.dotGeneral dot_S3x5x5_S16384x5x128_S3x5x16384x128_2_1_01_02_n_n none
        (shapeCast _ (broadcastInDim S3x1x5x5 ![0, 2, 3] bcast_S3x5x5_S3x1x5x5_0_2_3 stacked) shapeCasts_S3x1x5x5_S3x5x5) (pooled x))
        transposes_S3x5x16384x128_S3x16384x5x128_0_2_1_3)
      (shapeCast _ w shapeCasts_S3x1x128x128_S3x128x128)) (constant S_ .f32 0x00000000#32) reducesTo_S3x16384x5x128_S16384x5x128_d0 h_S_)
    (broadcastInDim S16384x5x128 ![0, 1, 2] bcast_S1x1x128_S16384x5x128_0_1_2 b)
/-- The reference's result. -/
def output (x : FVec Ideal S16384x17x128 .f32) (w : FVec Ideal S3x1x128x128 .f32) (b : FVec Ideal S1x1x128 .f32) : FVec Ideal S16384x17x128 .f32 :=
  Host.gather gather_S16384x5x128_S17x1_S16384x17x128_02_1_n_n_1_1_163841128 (filtered x w b) parts

section
variable (x : FVec Ideal S16384x17x128 .f32) (w : FVec Ideal S3x1x128x128 .f32) (b : FVec Ideal S1x1x128 .f32)
  (n : Fin 16384) (r : Fin 17 → Fin 128 → ℝ) (hx : ∀ (j : Fin 17) (c : Fin 128), x (ix3 n j c) = ((r j c : ℝ) : EReal)) (l : Fin 128)
include hx

/-- On a finite row, the filtered features are the mathematics at each part. -/
theorem filtered_at (p : Fin 5) : filtered x w b (ix3 n p l) = conv r (fun k c => w (ix4 k 0 c l)) (b (ix3 0 0 l)) p := by
  have hp := fun c : Fin 128 => pooled_at x n c (fun j => r j c) (fun j => hx j c)
  pointwise [filtered, stacked_at, hp, conv]
  simp only [← EReal.coe_mul, sum_real, sum_cheb]
/-- On a finite row, the reference's result is the mathematics at each joint's part. -/
theorem output_at (j : Fin 17) : output x w b (ix3 n j l) = conv r (fun k c => w (ix4 k 0 c l)) (b (ix3 0 0 l)) (part j) :=
  (Take.gather_mid_apply _ (filtered x w b) parts n j l (part j) (parts_at j)).trans (filtered_at x w b n r hx l (part j))
end

end Cert.Reference
-- ==== Proof.Algebraic.lean ====
module

public import proofs.«01_k».proof.Proof.Runs
public import proofs.«01_k».proof.Proof.TileValue
public import proofs.«01_k».proof.Proof.Matrices
public import Idealize.ShloMosaic.Lib.Claim

@[expose] public section

set_option maxRecDepth 16384

noncomputable section

/-! # The two programs end with the same result -/

namespace Cert.Reference

open Cert.ReferenceIdeal Cert.ReferenceIdeal.Gen
open Idealize.ShloMosaic Idealize.ShloMosaic.TcCoe

/-- The reference's composed result is `output` of its arguments. -/
theorem res_eq (m : (ℓ : Loc nD τ sig) → Buf (Elt Ideal) ℓ) (c : Dev nD) :
    Cert.ReferenceIdeal.Value.res_main_v102 (F := Ideal) m c
      = output (m ((c.tc : Thread nD τ).loc main_arg0)) (m ((c.tc : Thread nD τ).loc main_arg1)) (m ((c.tc : Thread nD τ).loc main_arg2)) := rfl

end Cert.Reference

namespace Cert.Proof

open Cert.KernelIdeal Cert.KernelIdeal.Gen Cert.Graph
open Idealize.ShloMosaic Idealize.ShloMosaic.TcCoe Idealize.SL.Sem

/-- Where the precondition holds, every entry of `x` is a real. -/
theorem finite_of_pre [Cert.Pre_x_is_finite.Facts] (x : FVec Ideal S16384x17x128 .f32) (w : FVec Ideal S3x1x128x128 .f32) (b : FVec Ideal S1x1x128 .f32)
    (h : Cert.Pre_x_is_finite.fn (F := Ideal) x w b = fun _ => 1#1) (i : S16384x17x128.Idx) : ∃ r : ℝ, x i = (r : EReal) := by
  have hi := congrFun h i
  pointwise [Cert.Pre_x_is_finite.fn, infinity] at hi
  have hlt : FloatOps.absf (F := Ideal) (φ := .f32) (x i) < (⊤ : EReal) := by
    by_contra hn
    rw [decide_eq_false hn] at hi
    exact absurd hi (by decide)
  generalize x i = y at hlt
  have hlt' : max (y : EReal) (-y) < ⊤ := hlt
  have htop : (y : EReal) ≠ ⊤ := fun e => by simp [e] at hlt'
  have hbot : (y : EReal) ≠ ⊥ := fun e => by simp [e] at hlt'
  exact ⟨EReal.toReal y, (EReal.coe_toReal htop hbot).symm⟩

/-- The weights and the bias as the kernel reads them are the arguments' entries. -/
theorem weights_cast (w : FVec Ideal S3x1x128x128 .f32) (k : Fin 3) (c l : Fin 128) :
    shapeCast S384x128 w shapeCasts_S3x1x128x128_S384x128 (ix2 ⟨k.val * 128 + c.val, by omega⟩ l) = w (ix4 k 0 c l) := by
  pointwise
/-- The bias as a row is the bias. -/
theorem bias_cast (b : FVec Ideal S1x1x128 .f32) (l : Fin 128) : shapeCast S1x128 b shapeCasts_S1x1x128_S1x128 (ix2 0 l) = b (ix3 0 0 l) := by
  pointwise

variable (m : (ℓ : Loc nD τ sig) → Buf (Elt Ideal) ℓ) (c : Dev nD)

/-- The kernel's result is the mathematics at each joint's part, on finite `x`. -/
theorem result_at (r : Fin 16384 → Fin 17 → Fin 128 → ℝ)
    (hx : ∀ n j k, (m ((c.tc : Thread nD τ).loc main_arg0) : FVec Ideal S16384x17x128 .f32) (ix3 n j k) = ((r n j k : ℝ) : EReal))
    (n : Fin 16384) (j : Fin 17) (l : Fin 128) :
    (result (F := Ideal) c m : FVec Ideal S16384x17x128 .f32) (ix3 n j l)
      = conv (r n) (fun k c' => (m ((c.tc : Thread nD τ).loc main_arg1) : FVec Ideal S3x1x128x128 .f32) (ix4 k 0 c' l))
          ((m ((c.tc : Thread nD τ).loc main_arg2) : FVec Ideal S1x1x128 .f32) (ix3 0 0 l)) (part j) := by
  have hn := n.isLt
  have hrow : ∀ (j : Fin 17) (k : Fin 128), blockVec (F := Ideal) (V m c main_arg0) ⟨n.val / 256, by omega⟩ (ix4 0 ⟨n.val % 256, Nat.mod_lt _ (by decide)⟩ j k)
      = ((r n j k : ℝ) : EReal) := by
    intro j k
    rw [V_main_arg0]
    refine Eq.trans (congrArg (m ((c.tc : Thread nD τ).loc main_arg0)) ?_) (hx n j k)
    refine congrArg (fun a : Fin 16384 => ix3 a j k) (Fin.ext ?_)
    show 256 * (n.val / 256) + n.val % 256 = n.val
    omega
  refine (tile_at ⟨n.val % 256, Nat.mod_lt _ (by decide)⟩ l (r n) (V m c main_v1) (V m c main_v0) _ hrow j).trans ?_
  have hw : ∀ (k : Fin 3) (c' : Fin 128), weights l (V m c main_v0) k c' = (m ((c.tc : Thread nD τ).loc main_arg1) : FVec Ideal S3x1x128x128 .f32) (ix4 k 0 c' l) := by
    intro k c'
    unfold weights
    entry_read
    exact weights_cast _ k c' l
  have hb : (V m c main_v1 : FVec Ideal S1x128 .f32) (ix2 0 l) = (m ((c.tc : Thread nD τ).loc main_arg2) : FVec Ideal S1x1x128 .f32) (ix3 0 0 l) := by
    entry_read
    exact bias_cast _ l
  rw [hb, show weights l (V m c main_v0) = _ from funext fun k => funext (hw k)]

/-- On finite `x` the reference's composed result, over the arguments the kernel has, is the kernel's. -/
theorem res_eq_result (m' : (ℓ : Loc Cert.ReferenceIdeal.nD Cert.ReferenceIdeal.τ Cert.ReferenceIdeal.sig) → Buf (Elt Ideal) ℓ)
    (hfin : ∀ i : S16384x17x128.Idx, ∃ r : ℝ, (m ((c.tc : Thread nD τ).loc main_arg0) : FVec Ideal S16384x17x128 .f32) i = (r : EReal))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    (Cert.ReferenceIdeal.Value.res_main_v102 (F := Ideal) m' c : S16384x17x128.Idx → EReal) = result (F := Ideal) c m := by
  choose r hr using hfin
  rw [Cert.Reference.res_eq, h0, h1, h2]
  funext i
  idx_vars i
  exact (Cert.Reference.output_at _ _ _ _ (fun j k => r (ix3 i0 j k)) (fun j k => hr (ix3 i0 j k)) i2 i1).trans
    (result_at m c (fun n j k => r (ix3 n j k)) (fun n j k => hr (ix3 n j k)) i0 i1 i2).symm

/-- The kernel and the reference, both over the extended reals, end with equal results where `x` is finite. -/
theorem algebraic : Cert.algebraic_KernelIdeal_ReferenceIdeal_pre_x_is_finite (hPre_x_is_finite := preFacts) :=
  fun m g m' g' hpre hagree => ⟨fun c => result (F := Ideal) c m,
    (θ_run Cert.KernelIdeal.defs _ _).mono (fun _ h => h.1) (run_kernel m g),
    (θ_run Cert.ReferenceIdeal.defs _ _).mono (fun _ h c => ⟨(h c).1.trans (res_eq_result m c m'
        (@finite_of_pre preFacts _ _ _ (hpre c)) (hagree c).1 (hagree c).2.1 (hagree c).2.2), (h c).2⟩)
      (Cert.ReferenceIdeal.Value.run (F := Ideal) m' g')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Runs
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate: both kernels and the reference run, the named constants are what they say, and the results are equal. -/
theorem claim : Cert.Claim := ⟨Cert.Kernel.Gen.facts, Cert.KernelIdeal.Gen.facts, Cert.ReferenceIdeal.Gen.facts, preFacts,
  frame_kernel, frame_kernelIdeal, frame_kernelIdeal_pre, frame_referenceIdeal, frame_referenceIdeal_pre, preserves, algebraic⟩

end Cert.Proof

end
